-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_plain_inputs [hKernelIdeal : Cert.KernelIdeal.Facts] [hReferenceIdeal : Cert.ReferenceIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v99)) (v3 : (c : Dev Cert.KernelIdeal.nD) → Buf (Elt Ideal) ((c.tc : Thread Cert.KernelIdeal.nD Cert.KernelIdeal.τ).loc Cert.KernelIdeal.main_v100)) (v4 : (c : Dev Cert.KernelIdeal.nD) → Buf (Elt Ideal) ((c.tc : Thread Cert.KernelIdeal.nD Cert.KernelIdeal.τ).loc Cert.KernelIdeal.main_v101)) (v5 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v99) = v2 c
          ∧ r.2.mem ((c.tc : Thread Cert.KernelIdeal.nD Cert.KernelIdeal.τ).loc Cert.KernelIdeal.main_v100) = v3 c
          ∧ r.2.mem ((c.tc : Thread Cert.KernelIdeal.nD Cert.KernelIdeal.τ).loc Cert.KernelIdeal.main_v101) = v4 c
          ∧ r.2.mem ((c.tc : Thread Cert.KernelIdeal.nD Cert.KernelIdeal.τ).loc Cert.KernelIdeal.main_v102) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_v162) = v4 c
          ∧ r.2.mem ((c.tc : Thread Cert.ReferenceIdeal.nD Cert.ReferenceIdeal.τ).loc Cert.ReferenceIdeal.main_v174) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_plain_inputs : Cert.Pre_plain_inputs.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_pre_plain_inputs (hKernelIdeal := hKernelIdeal) (hReferenceIdeal := hReferenceIdeal) (hPre_plain_inputs := hPre_plain_inputs)
-- ==== Pre_plain_inputs.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S2816x1024 : Shape := ⟨2, ![2816, 1024]⟩
abbrev S1024x2816 : Shape := ⟨2, ![1024, 2816]⟩
abbrev S1x1024 : Shape := ⟨2, ![1, 1024]⟩
abbrev S1 : Shape := ⟨1, ![1]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1 : S_.BroadcastsInDim S1 (![] : Fin 0 → Fin S1.rank)
  reducesTo_S1_S_d0 : S1.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg5 : FVec F S1024x1024 .f32) (main_v22 : IVec S_ 1) (main_v31 : IVec S_ 1) : IVec S_ 1 :=
  let main_v32 : FVec F S1024x1024 .f32 := Host.absf main_arg5
  let main_cst_14 : FVec F S_ .f32 := constant S_ .f32 0x7F800000#32
  let main_v33 : FVec F S1024x1024 .f32 := broadcastInDim S1024x1024 ![] bcast_S_S1024x1024 main_cst_14
  let main_v34 : IVec S1024x1024 1 := cmpf .olt main_v32 main_v33
  let main_c_15 : IVec S_ 1 := constantI S_ 1 1#1
  let main_v35 : IVec S_ 1 := (fun x v => Host.reduce IntOp.andi x v reducesTo_S1024x1024_S_d0_1 h_S_) main_v34 main_c_15
  let main_v36 : IVec S_ 1 := andi main_v31 main_v35
  let main_v37 : IVec S_ 1 := andi main_v22 main_v36
  main_v37

def fn_part1 {F : FTy → Type} [FloatOps F] (main_arg2 : FVec F S1024 .f32) (main_arg3 : FVec F S1024x1024 .f32) (main_arg5 : FVec F S1024x1024 .f32) (main_arg17 : FVec F S1024 .f32) (main_arg19 : FVec F S1 .f32) (main_v14 : IVec S_ 1) (main_cst_6 : FVec F S_ .f32) : IVec S_ 1 :=
  let main_v15 : FVec F S1024 .f32 := broadcastInDim S1024 ![] bcast_S_S1024 main_cst_6
  let main_v16 : IVec S1024 1 := cmpf .oeq main_arg17 main_v15
  let main_c_7 : IVec S_ 1 := constantI S_ 1 1#1
  let main_v17 : IVec S_ 1 := (fun x v => Host.reduce IntOp.andi x v reducesTo_S1024_S_d0 h_S_) main_v16 main_c_7
  let main_v18 : IVec S_ 1 := andi main_v14 main_v17
  let main_cst_8 : FVec F S_ .f32 := constant S_ .f32 0x00000000#32
  let main_v19 : FVec F S1 .f32 := broadcastInDim S1 ![] bcast_S_S1 main_cst_8
  let main_v20 : IVec S1 1 := cmpf .oeq main_arg19 main_v19
  let main_c_9 : IVec S_ 1 := constantI S_ 1 1#1
  let main_v21 : IVec S_ 1 := (fun x v => Host.reduce IntOp.andi x v reducesTo_S1_S_d0 h_S_) main_v20 main_c_9
  let main_v22 : IVec S_ 1 := andi main_v18 main_v21
  let main_v23 : FVec F S1024 .f32 := Host.absf main_arg2
  let main_cst_10 : FVec F S_ .f32 := constant S_ .f32 0x7F800000#32
  let main_v24 : FVec F S1024 .f32 := broadcastInDim S1024 ![] bcast_S_S1024 main_cst_10
  let main_v25 : IVec S1024 1 := cmpf .olt main_v23 main_v24
  let main_c_11 : IVec S_ 1 := constantI S_ 1 1#1
  let main_v26 : IVec S_ 1 := (fun x v => Host.reduce IntOp.andi x v reducesTo_S1024_S_d0 h_S_) main_v25 main_c_11
  let main_v27 : FVec F S1024x1024 .f32 := Host.absf main_arg3
  let main_cst_12 : FVec F S_ .f32 := constant S_ .f32 0x7F800000#32
  let main_v28 : FVec F S1024x1024 .f32 := broadcastInDim S1024x1024 ![] bcast_S_S1024x1024 main_cst_12
  let main_v29 : IVec S1024x1024 1 := cmpf .olt main_v27 main_v28
  let main_c_13 : IVec S_ 1 := constantI S_ 1 1#1
  let main_v30 : IVec S_ 1 := (fun x v => Host.reduce IntOp.andi x v reducesTo_S1024x1024_S_d0_1 h_S_) main_v29 main_c_13
  let main_v31 : IVec S_ 1 := andi main_v26 main_v30
  fn_part2 (F := F) main_arg5 main_v22 main_v31

def fn {F : FTy → Type} [FloatOps F] (main_arg0 : FVec F S1x2048x1024 .f32) (main_arg1 : IVec S1x2048 32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S2816x1024 .f32) (main_arg12 : FVec F S2816x1024 .f32) (main_arg13 : FVec F S1024x2816 .f32) (main_arg14 : FVec F S1024x1024 .f32) (main_arg15 : FVec F S1024 .f32) (main_arg16 : FVec F S1024x1024 .f32) (main_arg17 : FVec F S1024 .f32) (main_arg18 : FVec F S1x1024 .f32) (main_arg19 : FVec F S1 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .oeq main_arg4 main_v0
  let main_c : IVec S_ 1 := constantI S_ 1 1#1
  let main_v2 : IVec S_ 1 := (fun x v => Host.reduce IntOp.andi x v reducesTo_S1024_S_d0 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oeq main_arg6 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_cst_2 : FVec F S_ .f32 := constant S_ .f32 0x00000000#32
  let main_v7 : FVec F S1024 .f32 := broadcastInDim S1024 ![] bcast_S_S1024 main_cst_2
  let main_v8 : IVec S1024 1 := cmpf .oeq main_arg8 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  let main_cst_4 : FVec F S_ .f32 := constant S_ .f32 0x00000000#32
  let main_v11 : FVec F S1024 .f32 := broadcastInDim S1024 ![] bcast_S_S1024 main_cst_4
  let main_v12 : IVec S1024 1 := cmpf .oeq main_arg15 main_v11
  let main_c_5 : IVec S_ 1 := constantI S_ 1 1#1
  let main_v13 : IVec S_ 1 := (fun x v => Host.reduce IntOp.andi x v reducesTo_S1024_S_d0 h_S_) main_v12 main_c_5
  let main_v14 : IVec S_ 1 := andi main_v10 main_v13
  let main_cst_6 : FVec F S_ .f32 := constant S_ .f32 0x00000000#32
  fn_part1 (F := F) main_arg2 main_arg3 main_arg5 main_arg17 main_arg19 main_v14 main_cst_6
-- ==== Kernel.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S2816x1024 : Shape := ⟨2, ![2816, 1024]⟩
abbrev S1024x2816 : Shape := ⟨2, ![1024, 2816]⟩
abbrev S1x1024 : Shape := ⟨2, ![1, 1024]⟩
abbrev S1 : Shape := ⟨1, ![1]⟩
abbrev S2048x1024 : Shape := ⟨2, ![2048, 1024]⟩
abbrev S16 : Shape := ⟨1, ![16]⟩
abbrev S16x1 : Shape := ⟨2, ![16, 1]⟩
abbrev S_ : Shape := ⟨0, ![]⟩
abbrev S32 : Shape := ⟨1, ![32]⟩
abbrev S1x32 : Shape := ⟨2, ![1, 32]⟩
abbrev S16x32 : Shape := ⟨2, ![16, 32]⟩
abbrev S512 : Shape := ⟨1, ![512]⟩
abbrev S2048 : Shape := ⟨1, ![2048]⟩
abbrev S2048x1 : Shape := ⟨2, ![2048, 1]⟩
abbrev S2048x32 : Shape := ⟨2, ![2048, 32]⟩
abbrev S1x2048x1x32 : Shape := ⟨4, ![1, 2048, 1, 32]⟩
abbrev S1x2048x16x32 : Shape := ⟨4, ![1, 2048, 16, 32]⟩
abbrev S2048x512 : Shape := ⟨2, ![2048, 512]⟩
abbrev S512x1 : Shape := ⟨2, ![512, 1]⟩
abbrev S512x1024 : Shape := ⟨2, ![512, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S2048x16x32 : Shape := ⟨3, ![2048, 16, 32]⟩
abbrev S2048x16x64 : Shape := ⟨3, ![2048, 16, 64]⟩
abbrev S16x2048x64 : Shape := ⟨3, ![16, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S1024x64 : Shape := ⟨2, ![1024, 64]⟩
abbrev S256x2816 : Shape := ⟨2, ![256, 2816]⟩
abbrev S1x1 : Shape := ⟨2, ![1, 1]⟩
abbrev S8x1024 : Shape := ⟨2, ![8, 1024]⟩
abbrev S1x256x1024 : Shape := ⟨3, ![1, 256, 1024]⟩
abbrev S1x1x1 : Shape := ⟨3, ![1, 1, 1]⟩
abbrev S1x2048x1 : Shape := ⟨3, ![1, 2048, 1]⟩

abbrev nBuf : Space → Nat
  | .hbm => 148
  | .vmem => 62
  | .smem => 0
  | _ => 0

abbrev hbmTy0_0 (i : Nat) : BufTy := match i % 128 with
  | 0 => ⟨S1x2048x1024, .f32⟩
  | 1 => ⟨S1x2048, .i32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2816x1024, .f32⟩
  | 12 => ⟨S2816x1024, .f32⟩
  | 13 => ⟨S1024x2816, .f32⟩
  | 14 => ⟨S1024x1024, .f32⟩
  | 15 => ⟨S1024, .f32⟩
  | 16 => ⟨S1024x1024, .f32⟩
  | 17 => ⟨S1024, .f32⟩
  | 18 => ⟨S1x1024, .f32⟩
  | 19 => ⟨S1, .f32⟩
  | 20 => ⟨S2048x1024, .f32⟩
  | 21 => ⟨S16, .i32⟩
  | 22 => ⟨S16x1, .i32⟩
  | 23 => ⟨S_, .i32⟩
  | 24 => ⟨S16x1, .i32⟩
  | 25 => ⟨S16x1, .i32⟩
  | 26 => ⟨S32, .i32⟩
  | 27 => ⟨S1x32, .i32⟩
  | 28 => ⟨S16x32, .i32⟩
  | 29 => ⟨S16x32, .i32⟩
  | 30 => ⟨S16x32, .i32⟩
  | 31 => ⟨S512, .i32⟩
  | 32 => ⟨S_, .i32⟩
  | 33 => ⟨S512, .i32⟩
  | 34 => ⟨S512, .i32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .i32⟩
  | 52 => ⟨S2048, .f32⟩
  | 53 => ⟨S2048x1, .f32⟩
  | 54 => ⟨S1x32, .f32⟩
  | 55 => ⟨S2048x32, .f32⟩
  | 56 => ⟨S2048x32, .f32⟩
  | 57 => ⟨S2048x32, .f32⟩
  | 58 => ⟨S2048x32, .f32⟩
  | 59 => ⟨S1x2048x1x32, .f32⟩
  | 60 => ⟨S1x2048x16x32, .f32⟩
  | 61 => ⟨S2048x512, .f32⟩
  | 62 => ⟨S2048x32, .f32⟩
  | 63 => ⟨S1x2048x1x32, .f32⟩
  | 64 => ⟨S1x2048x16x32, .f32⟩
  | 65 => ⟨S2048x512, .f32⟩
  | 66 => ⟨S1x1024, .f32⟩
  | 67 => ⟨S_, .i32⟩
  | 68 => ⟨S512, .i32⟩
  | 69 => ⟨S512, .i1⟩
  | 70 => ⟨S_, .i32⟩
  | 71 => ⟨S512, .i32⟩
  | 72 => ⟨S512, .i32⟩
  | 73 => ⟨S512, .i32⟩
  | 74 => ⟨S512x1, .i32⟩
  | 75 => ⟨S512x1024, .f32⟩
  | 76 => ⟨S512x1024, .bf16⟩
  | 77 => ⟨S_, .i32⟩
  | 78 => ⟨S512, .i32⟩
  | 79 => ⟨S512, .i1⟩
  | 80 => ⟨S_, .i32⟩
  | 81 => ⟨S512, .i32⟩
  | 82 => ⟨S512, .i32⟩
  | 83 => ⟨S512, .i32⟩
  | 84 => ⟨S512x1, .i32⟩
  | 85 => ⟨S512x1024, .f32⟩
  | 86 => ⟨S512x1024, .bf16⟩
  | 87 => ⟨S_, .i32⟩
  | 88 => ⟨S512, .i32⟩
  | 89 => ⟨S512, .i1⟩
  | 90 => ⟨S_, .i32⟩
  | 91 => ⟨S512, .i32⟩
  | 92 => ⟨S512, .i32⟩
  | 93 => ⟨S512, .i32⟩
  | 94 => ⟨S512x1, .i32⟩
  | 95 => ⟨S512x1024, .f32⟩
  | 96 => ⟨S512x1024, .bf16⟩
  | 97 => ⟨S_, .i32⟩
  | 98 => ⟨S512, .i32⟩
  | 99 => ⟨S512, .i1⟩
  | 100 => ⟨S_, .i32⟩
  | 101 => ⟨S512, .i32⟩
  | 102 => ⟨S512, .i32⟩
  | 103 => ⟨S512, .i32⟩
  | 104 => ⟨S512x1, .i32⟩
  | 105 => ⟨S512x1024, .f32⟩
  | 106 => ⟨S512x1024, .bf16⟩
  | 107 => ⟨S1024x1024, .bf16⟩
  | 108 => ⟨S2048x512, .bf16⟩
  | 109 => ⟨S2048x512, .bf16⟩
  | 110 => ⟨S2048x512, .bf16⟩
  | 111 => ⟨S2048x512, .bf16⟩
  | 112 => ⟨S2048x1024, .bf16⟩
  | 113 => ⟨S2048x16x32, .bf16⟩
  | 114 => ⟨S2048x16x32, .bf16⟩
  | 115 => ⟨S2048x16x64, .bf16⟩
  | 116 => ⟨S16x2048x64, .bf16⟩
  | 117 => ⟨S2048x16x32, .bf16⟩
  | 118 => ⟨S2048x16x32, .bf16⟩
  | 119 => ⟨S2048x16x64, .bf16⟩
  | 120 => ⟨S16x2048x64, .bf16⟩
  | 121 => ⟨S2048x16x64, .bf16⟩
  | 122 => ⟨S16x2048x64, .bf16⟩
  | 123 => ⟨S16x2048x64, .bf16⟩
  | 124 => ⟨S2048x16x64, .bf16⟩
  | 125 => ⟨S2048x1024, .bf16⟩
  | 126 => ⟨S1024x1024, .bf16⟩
  | 127 => ⟨S1x1024, .f32⟩
  | _ => ⟨S1x2048x1024, .f32⟩

abbrev hbmTy0_1 (i : Nat) : BufTy := match i % 128 with
  | 0 => ⟨S2816x1024, .bf16⟩
  | 1 => ⟨S2816x1024, .bf16⟩
  | 2 => ⟨S1024x2816, .bf16⟩
  | 3 => ⟨S2048x1024, .f32⟩
  | 4 => ⟨S1024x1024, .bf16⟩
  | 5 => ⟨S1024x1024, .bf16⟩
  | 6 => ⟨S2048x1, .f32⟩
  | 7 => ⟨S2048x1, .f32⟩
  | 8 => ⟨S1x1, .f32⟩
  | 9 => ⟨S2048x1, .f32⟩
  | 10 => ⟨S2048x1, .f32⟩
  | 11 => ⟨S2048x1, .f32⟩
  | 12 => ⟨S1x1, .f32⟩
  | 13 => ⟨S1x1, .f32⟩
  | 14 => ⟨S1x2048x1024, .f32⟩
  | 15 => ⟨S_, .f32⟩
  | 16 => ⟨S_, .f32⟩
  | 17 => ⟨S1x2048, .f32⟩
  | 18 => ⟨S1x2048, .f32⟩
  | 19 => ⟨S1x2048, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x1024, .bf16⟩
  | .local _ .vmem, ⟨21, _⟩ => ⟨S256x1024, .bf16⟩
  | .local _ .vmem, ⟨22, _⟩ => ⟨S1x256x64, .bf16⟩
  | .local _ .vmem, ⟨23, _⟩ => ⟨S1x256x64, .bf16⟩
  | .local _ .vmem, ⟨24, _⟩ => ⟨S1x2048x64, .bf16⟩
  | .local _ .vmem, ⟨25, _⟩ => ⟨S1x2048x64, .bf16⟩
  | .local _ .vmem, ⟨26, _⟩ => ⟨S1x2048x64, .bf16⟩
  | .local _ .vmem, ⟨27, _⟩ => ⟨S1x2048x64, .bf16⟩
  | .local _ .vmem, ⟨28, _⟩ => ⟨S1x256x64, .bf16⟩
  | .local _ .vmem, ⟨29, _⟩ => ⟨S1x256x64, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S1024x1024, .bf16⟩
  | .local _ .vmem, ⟨35, _⟩ => ⟨S1x1024, .f32⟩
  | .local _ .vmem, ⟨36, _⟩ => ⟨S2816x1024, .bf16⟩
  | .local _ .vmem, ⟨37, _⟩ => ⟨S2816x1024, .bf16⟩
  | .local _ .vmem, ⟨38, _⟩ => ⟨S1024x2816, .bf16⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S1024x1024, .bf16⟩
  | .local _ .vmem, ⟨46, _⟩ => ⟨S1024x1024, .bf16⟩
  | .local _ .vmem, ⟨47, _⟩ => ⟨S1x1024, .f32⟩
  | .local _ .vmem, ⟨48, _⟩ => ⟨S256x1, .f32⟩
  | .local _ .vmem, ⟨49, _⟩ => ⟨S256x1, .f32⟩
  | .local _ .vmem, ⟨50, _⟩ => ⟨S256x1, .f32⟩
  | .local _ .vmem, ⟨51, _⟩ => ⟨S256x1, .f32⟩
  | .local _ .vmem, ⟨52, _⟩ => ⟨S1x1, .f32⟩
  | .local _ .vmem, ⟨53, _⟩ => ⟨S8x1024, .f32⟩
  | .local _ .vmem, ⟨54, _⟩ => ⟨S2048x1, .f32⟩
  | .local _ .vmem, ⟨55, _⟩ => ⟨S2048x1, .f32⟩
  | .local _ .vmem, ⟨56, _⟩ => ⟨S1x1, .f32⟩
  | .local _ .vmem, ⟨57, _⟩ => ⟨S2048x1, .f32⟩
  | .local _ .vmem, ⟨58, _⟩ => ⟨S2048x1, .f32⟩
  | .local _ .vmem, ⟨59, _⟩ => ⟨S2048x1, .f32⟩
  | .local _ .vmem, ⟨60, _⟩ => ⟨S1x1, .f32⟩
  | .local _ .vmem, ⟨61, _⟩ => ⟨S1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_cst_2 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_c_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_9 : Ref sig .tc := ⟨.hbm, 87, rfl⟩
abbrev main_v56 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_11 : Ref sig .tc := ⟨.hbm, 97, rfl⟩
abbrev main_v64 : Ref sig .tc := ⟨.hbm, 98, rfl⟩
abbrev main_v65 : Ref sig .tc := ⟨.hbm, 99, rfl⟩
abbrev main_c_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73_0 : Ref sig .tc := ⟨.hbm, 108, rfl⟩
abbrev main_v73_1 : Ref sig .tc := ⟨.hbm, 109, rfl⟩
abbrev main_v73_2 : Ref sig .tc := ⟨.hbm, 110, rfl⟩
abbrev main_v73_3 : Ref sig .tc := ⟨.hbm, 111, rfl⟩
abbrev main_v73_4 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95_0 : Ref sig .tc := ⟨.hbm, 134, rfl⟩
abbrev main_v95_1 : Ref sig .tc := ⟨.hbm, 135, rfl⟩
abbrev main_v95_2 : Ref sig .tc := ⟨.hbm, 136, rfl⟩
abbrev main_v96_0 : Ref sig .tc := ⟨.hbm, 137, rfl⟩
abbrev main_v96_1 : Ref sig .tc := ⟨.hbm, 138, rfl⟩
abbrev main_v96_2 : Ref sig .tc := ⟨.hbm, 139, rfl⟩
abbrev main_v96_3 : Ref sig .tc := ⟨.hbm, 140, rfl⟩
abbrev main_v96_4 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg7_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg5_1 : Ref sig .tc := ⟨.vmem, 49, rfl⟩
abbrev cc3_stg6_0 : Ref sig .tc := ⟨.vmem, 50, rfl⟩
abbrev cc3_stg6_1 : Ref sig .tc := ⟨.vmem, 51, rfl⟩
abbrev cc3_stg7_0 : Ref sig .tc := ⟨.vmem, 52, rfl⟩
abbrev cc3_scratch0 : Ref sig .tc := ⟨.vmem, 53, rfl⟩
abbrev cc4_stg0_0 : Ref sig .tc := ⟨.vmem, 54, rfl⟩
abbrev cc4_stg1_0 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem7_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem3_0 : DmaSem sig := 46
abbrev cc3_sem4_0 : DmaSem sig := 47
abbrev cc3_sem5_0 : DmaSem sig := 48
abbrev cc3_sem5_1 : DmaSem sig := 49
abbrev cc3_sem6_0 : DmaSem sig := 50
abbrev cc3_sem6_1 : DmaSem sig := 51
abbrev cc3_sem7_0 : DmaSem sig := 52
abbrev cc4_sem0_0 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem6_0 : DmaSem sig := 59
abbrev cc4_sem7_0 : DmaSem sig := 60

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2816x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x2816 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := .none

abbrev stage4_0 : Fin 1 → Memref sig .tc .vmem S2048x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2048x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S2048x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S2048x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S2048x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
-- ==== ReferenceIdeal.lean ====
abbrev S1x2048x1024 : Shape := ⟨3, ![1, 2048, 1024]⟩
abbrev S1x2048 : Shape := ⟨2, ![1, 2048]⟩
abbrev S1024 : Shape := ⟨1, ![1024]⟩
abbrev S1024x1024 : Shape := ⟨2, ![1024, 1024]⟩
abbrev S2816x1024 : Shape := ⟨2, ![2816, 1024]⟩
abbrev S1024x2816 : Shape := ⟨2, ![1024, 2816]⟩
abbrev S1x1024 : Shape := ⟨2, ![1, 1024]⟩
abbrev S1 : Shape := ⟨1, ![1]⟩
abbrev S_ : Shape := ⟨0, ![]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S32 : Shape := ⟨1, ![32]⟩
abbrev S1x1x32 : Shape := ⟨3, ![1, 1, 32]⟩
abbrev S1x2048x32 : Shape := ⟨3, ![1, 2048, 32]⟩
abbrev S1x2048x64 : Shape := ⟨3, ![1, 2048, 64]⟩
abbrev S1x1x2048x64 : Shape := ⟨4, ![1, 1, 2048, 64]⟩
abbrev S1x16x2048x32 : Shape := ⟨4, ![1, 16, 2048, 32]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x2048x2816 : Shape := ⟨3, ![1, 2048, 2816]⟩
abbrev S1x2047x1024 : Shape := ⟨3, ![1, 2047, 1024]⟩
abbrev S1024x1 : Shape := ⟨2, ![1024, 1]⟩
abbrev S1x1x1 : Shape := ⟨3, ![1, 1, 1]⟩

abbrev nBuf : Space → Nat
  | .hbm => 266
  | .vmem => 0
  | .smem => 0
  | _ => 0

abbrev hbmTy0_0 (i : Nat) : BufTy := match i % 128 with
  | 0 => ⟨S1x2048x1024, .f32⟩
  | 1 => ⟨S1x2048, .i32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2816x1024, .f32⟩
  | 12 => ⟨S2816x1024, .f32⟩
  | 13 => ⟨S1024x2816, .f32⟩
  | 14 => ⟨S1024x1024, .f32⟩
  | 15 => ⟨S1024, .f32⟩
  | 16 => ⟨S1024x1024, .f32⟩
  | 17 => ⟨S1024, .f32⟩
  | 18 => ⟨S1x1024, .f32⟩
  | 19 => ⟨S1, .f32⟩
  | 20 => ⟨S1x2048x1024, .f32⟩
  | 21 => ⟨S_, .f32⟩
  | 22 => ⟨S1x2048, .f32⟩
  | 23 => ⟨S1x2048x1, .f32⟩
  | 24 => ⟨S_, .f32⟩
  | 25 => ⟨S1x2048x1, .f32⟩
  | 26 => ⟨S1x2048x1, .f32⟩
  | 27 => ⟨S_, .f32⟩
  | 28 => ⟨S1x2048x1, .f32⟩
  | 29 => ⟨S1x2048x1, .f32⟩
  | 30 => ⟨S1x2048x1, .f32⟩
  | 31 => ⟨S1x2048x1024, .f32⟩
  | 32 => ⟨S1x2048x1024, .f32⟩
  | 33 => ⟨S1x1x1024, .f32⟩
  | 34 => ⟨S1x2048x1024, .f32⟩
  | 35 => ⟨S1x2048x1024, .f32⟩
  | 36 => ⟨S1024x1024, .f32⟩
  | 37 => ⟨S1x2048x1024, .f32⟩
  | 38 => ⟨S1x1x1024, .f32⟩
  | 39 => ⟨S1x2048x1024, .f32⟩
  | 40 => ⟨S1x2048x1024, .f32⟩
  | 41 => ⟨S1x2048x16x64, .f32⟩
  | 42 => ⟨S1x16x2048x64, .f32⟩
  | 43 => ⟨S1024x1024, .f32⟩
  | 44 => ⟨S1x2048x1024, .f32⟩
  | 45 => ⟨S1x1x1024, .f32⟩
  | 46 => ⟨S1x2048x1024, .f32⟩
  | 47 => ⟨S1x2048x1024, .f32⟩
  | 48 => ⟨S1x2048x16x64, .f32⟩
  | 49 => ⟨S1x16x2048x64, .f32⟩
  | 50 => ⟨S1024x1024, .f32⟩
  | 51 => ⟨S1x2048x1024, .f32⟩
  | 52 => ⟨S1x1x1024, .f32⟩
  | 53 => ⟨S1x2048x1024, .f32⟩
  | 54 => ⟨S1x2048x1024, .f32⟩
  | 55 => ⟨S1x2048x16x64, .f32⟩
  | 56 => ⟨S1x16x2048x64, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S1x2048, .f32⟩
  | 74 => ⟨S1x2048x1, .f32⟩
  | 75 => ⟨S1x1x32, .f32⟩
  | 76 => ⟨S1x2048x32, .f32⟩
  | 77 => ⟨S1x2048x32, .f32⟩
  | 78 => ⟨S1x2048x32, .f32⟩
  | 79 => ⟨S1x2048x64, .f32⟩
  | 80 => ⟨S1x2048x64, .f32⟩
  | 81 => ⟨S1x1x2048x64, .f32⟩
  | 82 => ⟨S1x2048x64, .f32⟩
  | 83 => ⟨S1x1x2048x64, .f32⟩
  | 84 => ⟨S1x16x2048x64, .f32⟩
  | 85 => ⟨S1x16x2048x64, .f32⟩
  | 86 => ⟨S1x16x2048x32, .f32⟩
  | 87 => ⟨S1x16x2048x32, .f32⟩
  | 88 => ⟨S1x16x2048x32, .f32⟩
  | 89 => ⟨S1x16x2048x64, .f32⟩
  | 90 => ⟨S1x16x2048x64, .f32⟩
  | 91 => ⟨S1x16x2048x64, .f32⟩
  | 92 => ⟨S1x16x2048x64, .f32⟩
  | 93 => ⟨S1x16x2048x64, .f32⟩
  | 94 => ⟨S1x16x2048x64, .f32⟩
  | 95 => ⟨S1x16x2048x32, .f32⟩
  | 96 => ⟨S1x16x2048x32, .f32⟩
  | 97 => ⟨S1x16x2048x32, .f32⟩
  | 98 => ⟨S1x16x2048x64, .f32⟩
  | 99 => ⟨S1x16x2048x64, .f32⟩
  | 100 => ⟨S1x16x2048x64, .f32⟩
  | 101 => ⟨S1x16x2048x64, .f32⟩
  | 102 => ⟨S1x16x64x2048, .f32⟩
  | 103 => ⟨S16x2048x64, .f32⟩
  | 104 => ⟨S16x64x2048, .f32⟩
  | 105 => ⟨S16x2048x2048, .f32⟩
  | 106 => ⟨S1x16x2048x2048, .f32⟩
  | 107 => ⟨S_, .f32⟩
  | 108 => ⟨S_, .f32⟩
  | 109 => ⟨S1x16x2048x2048, .f32⟩
  | 110 => ⟨S1x16x2048x2048, .f32⟩
  | 111 => ⟨S_, .i1⟩
  | 112 => ⟨S2048x2048, .i1⟩
  | 113 => ⟨S2048x2048, .i32⟩
  | 114 => ⟨S_, .i32⟩
  | 115 => ⟨S2048x2048, .i32⟩
  | 116 => ⟨S2048x2048, .i32⟩
  | 117 => ⟨S2048x2048, .i32⟩
  | 118 => ⟨S2048x2048, .i1⟩
  | 119 => ⟨S_, .i1⟩
  | 120 => ⟨S2048x2048, .i1⟩
  | 121 => ⟨S2048x2048, .i1⟩
  | 122 => ⟨S1x1x2048x2048, .i1⟩
  | 123 => ⟨S_, .f32⟩
  | 124 => ⟨S1x16x2048x2048, .i1⟩
  | 125 => ⟨S1x16x2048x2048, .f32⟩
  | 126 => ⟨S1x16x2048x2048, .f32⟩
  | 127 => ⟨S_, .f32⟩
  | _ => ⟨S1x2048x1024, .f32⟩

abbrev hbmTy0_1 (i : Nat) : BufTy := match i % 128 with
  | 0 => ⟨S1x16x2048, .f32⟩
  | 1 => ⟨S_, .f32⟩
  | 2 => ⟨S1x16x2048, .f32⟩
  | 3 => ⟨S1x16x2048, .f32⟩
  | 4 => ⟨S1x16x2048x1, .f32⟩
  | 5 => ⟨S1x16x2048x2048, .f32⟩
  | 6 => ⟨S1x16x2048x2048, .f32⟩
  | 7 => ⟨S1x16x2048x2048, .f32⟩
  | 8 => ⟨S_, .f32⟩
  | 9 => ⟨S1x16x2048, .f32⟩
  | 10 => ⟨S1x16x2048x1, .f32⟩
  | 11 => ⟨S1x16x2048x2048, .f32⟩
  | 12 => ⟨S1x16x2048x2048, .f32⟩
  | 13 => ⟨S16x2048x2048, .f32⟩
  | 14 => ⟨S16x2048x64, .f32⟩
  | 15 => ⟨S16x2048x64, .f32⟩
  | 16 => ⟨S1x16x2048x64, .f32⟩
  | 17 => ⟨S1x2048x16x64, .f32⟩
  | 18 => ⟨S1x2048x1024, .f32⟩
  | 19 => ⟨S1024x1024, .f32⟩
  | 20 => ⟨S1x2048x1024, .f32⟩
  | 21 => ⟨S1x2048x1024, .f32⟩
  | 22 => ⟨S1x2048x1024, .f32⟩
  | 23 => ⟨S_, .f32⟩
  | 24 => ⟨S1x2048, .f32⟩
  | 25 => ⟨S1x2048x1, .f32⟩
  | 26 => ⟨S_, .f32⟩
  | 27 => ⟨S1x2048x1, .f32⟩
  | 28 => ⟨S1x2048x1, .f32⟩
  | 29 => ⟨S_, .f32⟩
  | 30 => ⟨S1x2048x1, .f32⟩
  | 31 => ⟨S1x2048x1, .f32⟩
  | 32 => ⟨S1x2048x1, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1024x2816, .f32⟩
  | 39 => ⟨S1x2048x2816, .f32⟩
  | 40 => ⟨S1x2048x2816, .f32⟩
  | 41 => ⟨S1x2048x2816, .f32⟩
  | 42 => ⟨S_, .f32⟩
  | 43 => ⟨S1x2048x2816, .f32⟩
  | 44 => ⟨S1x2048x2816, .f32⟩
  | 45 => ⟨S_, .f32⟩
  | 46 => ⟨S1x2048x2816, .f32⟩
  | 47 => ⟨S1x2048x2816, .f32⟩
  | 48 => ⟨S1x2048x2816, .f32⟩
  | 49 => ⟨S1024x2816, .f32⟩
  | 50 => ⟨S1x2048x2816, .f32⟩
  | 51 => ⟨S1x2048x2816, .f32⟩
  | 52 => ⟨S2816x1024, .f32⟩
  | 53 => ⟨S1x2048x1024, .f32⟩
  | 54 => ⟨S1x2048x1024, .f32⟩
  | 55 => ⟨S1x2048x1024, .f32⟩
  | 56 => ⟨S_, .f32⟩
  | 57 => ⟨S1x1x1024, .f32⟩
  | 58 => ⟨S1x2047x1024, .f32⟩
  | 59 => ⟨S1x2048x1024, .f32⟩
  | 60 => ⟨S1024x1024, .f32⟩
  | 61 => ⟨S1x2048x1024, .f32⟩
  | 62 => ⟨S1x1x1024, .f32⟩
  | 63 => ⟨S1x2048x1024, .f32⟩
  | 64 => ⟨S1x2048x1024, .f32⟩
  | 65 => ⟨S1x2048x1024, .f32⟩
  | 66 => ⟨S1x2048x1024, .f32⟩
  | 67 => ⟨S_, .f32⟩
  | 68 => ⟨S1x2048x1024, .f32⟩
  | 69 => ⟨S1x2048x1024, .f32⟩
  | 70 => ⟨S_, .f32⟩
  | 71 => ⟨S1x2048x1024, .f32⟩
  | 72 => ⟨S1x2048x1024, .f32⟩
  | 73 => ⟨S1x2048x1024, .f32⟩
  | 74 => ⟨S1024x1024, .f32⟩
  | 75 => ⟨S1x2048x1024, .f32⟩
  | 76 => ⟨S1x1x1024, .f32⟩
  | 77 => ⟨S1x2048x1024, .f32⟩
  | 78 => ⟨S1x2048x1024, .f32⟩
  | 79 => ⟨S1x2048x1024, .f32⟩
  | 80 => ⟨S1x2048x1024, .f32⟩
  | 81 => ⟨S_, .f32⟩
  | 82 => ⟨S_, .f32⟩
  | 83 => ⟨S_, .f32⟩
  | 84 => ⟨S_, .f32⟩
  | 85 => ⟨S1x2048x1024, .f32⟩
  | 86 => ⟨S_, .f32⟩
  | 87 => ⟨S1x2048, .f32⟩
  | 88 => ⟨S1x2048, .f32⟩
  | 89 => ⟨S_, .f32⟩
  | 90 => ⟨S_, .f32⟩
  | 91 => ⟨S_, .f32⟩
  | 92 => ⟨S_, .f32⟩
  | 93 => ⟨S1x2048, .f32⟩
  | 94 => ⟨S1x2048, .f32⟩
  | 95 => ⟨S1x2048, .f32⟩
  | 96 => ⟨S1x2048, .f32⟩
  | 97 => ⟨S_, .f32⟩
  | 98 => ⟨S1x2048, .f32⟩
  | 99 => ⟨S1x2048, .f32⟩
  | 100 => ⟨S_, .f32⟩
  | 101 => ⟨S1x2048, .f32⟩
  | 102 => ⟨S1x2048, .f32⟩
  | 103 => ⟨S_, .f32⟩
  | 104 => ⟨S_, .f32⟩
  | 105 => ⟨S_, .f32⟩
  | 106 => ⟨S_, .f32⟩
  | 107 => ⟨S1x2048, .f32⟩
  | 108 => ⟨S1x2048, .i1⟩
  | 109 => ⟨S1x2048, .f32⟩
  | 110 => ⟨S1024x1, .f32⟩
  | 111 => ⟨S1x2048x1, .f32⟩
  | 112 => ⟨S1x1x1, .f32⟩
  | 113 => ⟨S1x2048x1, .f32⟩
  | 114 => ⟨S1x2048x1, .f32⟩
  | 115 => ⟨S1x2048, .f32⟩
  | 116 => ⟨S1x2048, .f32⟩
  | 117 => ⟨S1x2048, .f32⟩
  | 118 => ⟨S_, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S1x2048x1024, .f32⟩

abbrev hbmTy0_2 (i : Nat) : BufTy := match i % 128 with
  | 0 => ⟨S1x2048, .f32⟩
  | 1 => ⟨S1x2048, .f32⟩
  | 2 => ⟨S1x2048, .f32⟩
  | 3 => ⟨S1x2048, .f32⟩
  | 4 => ⟨S1x2048, .f32⟩
  | 5 => ⟨S1x2048, .f32⟩
  | 6 => ⟨S_, .f32⟩
  | 7 => ⟨S_, .f32⟩
  | 8 => ⟨S_, .f32⟩
  | 9 => ⟨S_, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_2 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_7 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c : Ref sig .tc := ⟨.hbm, 111, rfl⟩
abbrev main_v82 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_c_0 : Ref sig .tc := ⟨.hbm, 119, rfl⟩
abbrev main_call0_v5 : Ref sig .tc := ⟨.hbm, 120, rfl⟩
abbrev main_v83 : Ref sig .tc := ⟨.hbm, 121, rfl⟩
abbrev main_v84 : Ref sig .tc := ⟨.hbm, 122, rfl⟩
abbrev main_cst_8 : Ref sig .tc := ⟨.hbm, 123, rfl⟩
abbrev main_call1_v0 : Ref sig .tc := ⟨.hbm, 124, rfl⟩
abbrev main_call1_v1 : Ref sig .tc := ⟨.hbm, 125, rfl⟩
abbrev main_v85 : Ref sig .tc := ⟨.hbm, 126, rfl⟩
abbrev main_cst_9 : Ref sig .tc := ⟨.hbm, 127, rfl⟩
abbrev main_v86 : Ref sig .tc := ⟨.hbm, 128, rfl⟩
abbrev main_cst_10 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_11 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_12 : Ref sig .tc := ⟨.hbm, 151, rfl⟩
abbrev main_v107 : Ref sig .tc := ⟨.hbm, 152, rfl⟩
abbrev main_v108 : Ref sig .tc := ⟨.hbm, 153, rfl⟩
abbrev main_cst_13 : Ref sig .tc := ⟨.hbm, 154, rfl⟩
abbrev main_v109 : Ref sig .tc := ⟨.hbm, 155, rfl⟩
abbrev main_v110 : Ref sig .tc := ⟨.hbm, 156, rfl⟩
abbrev main_cst_14 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call2_v0 : Ref sig .tc := ⟨.hbm, 168, rfl⟩
abbrev main_call2_v1 : Ref sig .tc := ⟨.hbm, 169, rfl⟩
abbrev main_call2_cst : Ref sig .tc := ⟨.hbm, 170, rfl⟩
abbrev main_call2_v2 : Ref sig .tc := ⟨.hbm, 171, rfl⟩
abbrev main_call2_v3 : Ref sig .tc := ⟨.hbm, 172, rfl⟩
abbrev main_call2_cst_0 : Ref sig .tc := ⟨.hbm, 173, rfl⟩
abbrev main_call2_v4 : Ref sig .tc := ⟨.hbm, 174, rfl⟩
abbrev main_call2_v5 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_15 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call3_v0 : Ref sig .tc := ⟨.hbm, 193, rfl⟩
abbrev main_call3_v1 : Ref sig .tc := ⟨.hbm, 194, rfl⟩
abbrev main_call3_cst : Ref sig .tc := ⟨.hbm, 195, rfl⟩
abbrev main_call3_v2 : Ref sig .tc := ⟨.hbm, 196, rfl⟩
abbrev main_call3_v3 : Ref sig .tc := ⟨.hbm, 197, rfl⟩
abbrev main_call3_cst_0 : Ref sig .tc := ⟨.hbm, 198, rfl⟩
abbrev main_call3_v4 : Ref sig .tc := ⟨.hbm, 199, rfl⟩
abbrev main_call3_v5 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_cst_16 : Ref sig .tc := ⟨.hbm, 209, rfl⟩
abbrev main_v145 : Ref sig .tc := ⟨.hbm, 210, rfl⟩
abbrev main_cst_17 : Ref sig .tc := ⟨.hbm, 211, rfl⟩
abbrev main_v146 : Ref sig .tc := ⟨.hbm, 212, rfl⟩
abbrev main_call4_v0 : Ref sig .tc := ⟨.hbm, 213, rfl⟩
abbrev main_call4_cst : Ref sig .tc := ⟨.hbm, 214, rfl⟩
abbrev main_call4_v1 : Ref sig .tc := ⟨.hbm, 215, rfl⟩
abbrev main_v147 : Ref sig .tc := ⟨.hbm, 216, rfl⟩
abbrev main_cst_18 : Ref sig .tc := ⟨.hbm, 217, rfl⟩
abbrev main_v148 : Ref sig .tc := ⟨.hbm, 218, rfl⟩
abbrev main_cst_19 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_cst_20 : Ref sig .tc := ⟨.hbm, 225, rfl⟩
abbrev main_v154 : Ref sig .tc := ⟨.hbm, 226, rfl⟩
abbrev main_v155 : Ref sig .tc := ⟨.hbm, 227, rfl⟩
abbrev main_cst_21 : Ref sig .tc := ⟨.hbm, 228, rfl⟩
abbrev main_v156 : Ref sig .tc := ⟨.hbm, 229, rfl⟩
abbrev main_v157 : Ref sig .tc := ⟨.hbm, 230, rfl⟩
abbrev main_cst_22 : Ref sig .tc := ⟨.hbm, 231, rfl⟩
abbrev main_v158 : Ref sig .tc := ⟨.hbm, 232, rfl⟩
abbrev main_cst_23 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_24 : Ref sig .tc := ⟨.hbm, 246, rfl⟩
abbrev main_v171 : Ref sig .tc := ⟨.hbm, 247, rfl⟩
abbrev main_v172 : Ref sig .tc := ⟨.hbm, 248, rfl⟩
abbrev main_cst_25 : Ref sig .tc := ⟨.hbm, 249, rfl⟩
abbrev main_v173 : Ref sig .tc := ⟨.hbm, 250, rfl⟩
abbrev main_v174 : Ref sig .tc := ⟨.hbm, 251, rfl⟩
abbrev main_cst_26 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_cst_27 : Ref sig .tc := ⟨.hbm, 262, rfl⟩
abbrev main_v184 : Ref sig .tc := ⟨.hbm, 263, rfl⟩
abbrev main_cst_28 : Ref sig .tc := ⟨.hbm, 264, rfl⟩
abbrev main_v185 : Ref sig .tc := ⟨.hbm, 265, rfl⟩

abbrev nD : Nat := 1
abbrev τ : Topo := Topo.v7x

variable {F : FTy → Type} [FloatOps F]
-- ==== Proof.TailIdeal.lean ====
/-
  The tail kernel (custom call 3): its run at any staging buffers, in the two cases of its one branch, its proof data and
  its body obligation. The scratch buffer carries the last rows of the block of hidden states from one grid point to the next, and
  the 1x1 result window accumulates over the grid, so both are stated as functions of the grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.ValueKit
public import Idealize.ShloMosaic.Lib.VecWindow

@[expose] public section

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

omit [FloatOps F] in
/-- A store of the whole buffer leaves its payload. -/
theorem read_writes_whole {sp : Space} {S : Shape} {e : EltTy} (v : View sig .tc sp S e) (f : v.ty.Contents (Elt F)) {off : Fin S.rank → ℕ}
    (inb : ∀ a, off a + S.size a ≤ S.size a) (w : S.Idx → Elt F e) (L : List (View.Piece (Elt F) S e)) :
    v.read (Elt F) (v.writes (Elt F) f ((⟨Rect.unit off (no_index S.size) inb, w⟩ : View.Piece (Elt F) S e) :: L)) = w :=
  View.read_writes_full v f inb w L

omit [FloatOps F] in
/-- The grid's one coordinate at point `t` is `t`. -/
theorem coords3_val (t : Fin cfg3.N) : ((grid3.coords t) 0).val = t.val :=
  (by decide +kernel : ∀ t : Fin grid3.N, ((grid3.coords t) 0).val = t.val) t

omit [FloatOps F] in
/-- The kernel's branch is taken at the first grid point alone. -/
theorem branch_iff (i : grid3.Coords) :
    ((Scalar.cmpi .ne (Scalar.extui (Scalar.cmpi .eq (BitVec.ofNat 32 (i 0).val) 0#32)) 0#32 : BitVec 1) = 1#1) ↔ (i 0).val = 0 := by
  have h : ∀ k : Fin 8, ((Scalar.cmpi .ne (Scalar.extui (Scalar.cmpi .eq (BitVec.ofNat 32 k.val) 0#32)) 0#32 : BitVec 1) = 1#1) ↔ k.val = 0 := by decide
  exact h (i 0)

set_option maxHeartbeats 1000000 in
/-- The body at the first point: the accumulator is reset, then the block's sum is added. -/
theorem runA (c : Dev nD) (i : grid3.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S8x1024 .f32) (harg9 : arg9.IsWhole)
    (x0 : Vec F S256x1024 .f32) (x1 : Vec F S256x1024 .f32) (x2 : Vec F S1024x1024 .bf16) (x3 : Vec F S1024x1024 .bf16) (x4 : Vec F S1x1024 .f32) (xs : Vec F S8x1024 .f32) (hi : (i 0).val = 0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k3_pay8 x1 x0) ∗ owns (c : Thread nD τ) arg7 fullShare (k3_pay1 x0 x4) ∗ owns (c : Thread nD τ) arg8 fullShare (k3_pay3 (k3_pay7 i x1 (View.ld xs (Rect.unit (s := S8x1024) ![7, 0] S1x1024.size inb_S8x1024_S1x1024_7_0)) x2 x3 x0) k3_pay2) ∗ owns (c : Thread nD τ) arg9 fullShare (k3_pay5 x1)) -∗ K ⟨⟩))
    ⊢ wp frame (wpE (defs₀ (F := F)) 𝒱₀ c none) E (cc3__tail_kernel i arg1 harg1 arg2 harg2 arg3 harg3 arg4 harg4 arg5 harg5 arg6 harg6 arg7 harg7 arg8 harg8 arg9 harg9) K := by
  have hc : (Scalar.cmpi .ne (Scalar.extui (Scalar.cmpi .eq (BitVec.ofNat 32 (i 0).val) 0#32)) 0#32 : BitVec 1) = 1#1 := (branch_iff i).mpr hi
  simp only [cc3__tail_kernel_eq_skeleton]; unfold cc3__tail_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hf8
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    simp (disch := decide) only [dif_pos hc, read_writes_whole, View.readAt_eq_ld, View.ld_unit_lit', View.readCov_unit_lit', Memref.IsWhole.read_unread]
  isplitl [H6]
  · iexists _; isplitr; swap; · iexact H6
    ipureintro
    sl_unfold_words
    simp (disch := decide) only [dif_pos hc, read_writes_whole, View.readAt_eq_ld, View.ld_unit_lit', View.readCov_unit_lit', Memref.IsWhole.read_unread]
  isplitl [H7]
  · iexists _; isplitr; swap; · iexact H7
    ipureintro
    sl_unfold_words
    simp (disch := decide) only [dif_pos hc, read_writes_whole, View.readAt_eq_ld, View.ld_unit_lit', View.readCov_unit_lit', Memref.IsWhole.read_unread]
  iexists _; isplitr; swap; · iexact H8
  ipureintro
  sl_unfold_words
  simp (disch := decide) only [dif_pos hc, read_writes_whole, View.readAt_eq_ld, View.ld_unit_lit', View.readCov_unit_lit', Memref.IsWhole.read_unread]

set_option maxHeartbeats 1000000 in
/-- The body at a later point: the block's sum is added to what the accumulator holds. -/
theorem runB (c : Dev nD) (i : grid3.Coords) (arg1 : Memref sig .tc .vmem S256x1024 .f32) (harg1 : arg1.IsWhole) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S1x1 .f32) (harg8 : arg8.IsWhole) (arg9 : Memref sig .tc .vmem S8x1024 .f32) (harg9 : arg9.IsWhole)
    (x0 : Vec F S256x1024 .f32) (x1 : Vec F S256x1024 .f32) (x2 : Vec F S1024x1024 .bf16) (x3 : Vec F S1024x1024 .bf16) (x4 : Vec F S1x1024 .f32) (x7 : Vec F S1x1 .f32) (xs : Vec F S8x1024 .f32) (hi : (i 0).val ≠ 0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare x7 ∗ owns (c : Thread nD τ) arg9 fullShare xs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k3_pay8 x1 x0) ∗ owns (c : Thread nD τ) arg7 fullShare (k3_pay1 x0 x4) ∗ owns (c : Thread nD τ) arg8 fullShare (k3_pay3 (k3_pay7 i x1 (View.ld xs (Rect.unit (s := S8x1024) ![7, 0] S1x1024.size inb_S8x1024_S1x1024_7_0)) x2 x3 x0) x7) ∗ owns (c : Thread nD τ) arg9 fullShare (k3_pay5 x1)) -∗ K ⟨⟩))
    ⊢ wp frame (wpE (defs₀ (F := F)) 𝒱₀ c none) E (cc3__tail_kernel i arg1 harg1 arg2 harg2 arg3 harg3 arg4 harg4 arg5 harg5 arg6 harg6 arg7 harg7 arg8 harg8 arg9 harg9) K := by
  have hc : ¬(Scalar.cmpi .ne (Scalar.extui (Scalar.cmpi .eq (BitVec.ofNat 32 (i 0).val) 0#32)) 0#32 : BitVec 1) = 1#1 := fun h => hi ((branch_iff i).mp h)
  simp only [cc3__tail_kernel_eq_skeleton]; unfold cc3__tail_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg9.eq_unread hf8
  obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_words
    simp (disch := decide) only [dif_neg hc, read_writes_whole, View.readAt_eq_ld, View.ld_unit_lit', View.readCov_unit_lit', Memref.IsWhole.read_unread]
  isplitl [H6]
  · iexists _; isplitr; swap; · iexact H6
    ipureintro
    sl_unfold_words
    simp (disch := decide) only [dif_neg hc, read_writes_whole, View.readAt_eq_ld, View.ld_unit_lit', View.readCov_unit_lit', Memref.IsWhole.read_unread]
  isplitl [H7]
  · iexists _; isplitr; swap; · iexact H7
    ipureintro
    sl_unfold_words
    simp (disch := decide) only [dif_neg hc, read_writes_whole, View.readAt_eq_ld, View.ld_unit_lit', View.readCov_unit_lit', Memref.IsWhole.read_unread]
  iexists _; isplitr; swap; · iexact H8
  ipureintro
  sl_unfold_words
  simp (disch := decide) only [dif_neg hc, read_writes_whole, View.readAt_eq_ld, View.ld_unit_lit', View.readCov_unit_lit', Memref.IsWhole.read_unread]

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before_1_of {c : Dev nD} (dat : Dat τ (Elt F) Ix ℕ U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before_2_of {c : Dev nD} (dat : Dat τ (Elt F) Ix ℕ U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before_3_of {c : Dev nD} (dat : Dat τ (Elt F) Ix ℕ U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before_4_of {c : Dev nD} (dat : Dat τ (Elt F) Ix ℕ U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms_0 (t : Fin cfg3.N) : Memref sig .tc .vmem S256x1024 .f32 := win3_0.stage (cfg3.slots t 0)
abbrev ms_1 (t : Fin cfg3.N) : Memref sig .tc .vmem S256x1024 .f32 := win3_1.stage (cfg3.slots t 1)
abbrev ms_2 (t : Fin cfg3.N) : Memref sig .tc .vmem S1024x1024 .bf16 := win3_2.stage (cfg3.slots t 2)
abbrev ms_3 (t : Fin cfg3.N) : Memref sig .tc .vmem S1024x1024 .bf16 := win3_3.stage (cfg3.slots t 3)
abbrev ms_4 (t : Fin cfg3.N) : Memref sig .tc .vmem S1x1024 .f32 := win3_4.stage (cfg3.slots t 4)
abbrev ms_5 (t : Fin cfg3.N) : Memref sig .tc .vmem S256x1 .f32 := win3_5.stage (cfg3.slots t 5)
abbrev ms_6 (t : Fin cfg3.N) : Memref sig .tc .vmem S256x1 .f32 := win3_6.stage (cfg3.slots t 6)
abbrev ms_7 (t : Fin cfg3.N) : Memref sig .tc .vmem S1x1 .f32 := win3_7.stage (cfg3.slots t 7)

/-! ## What the body carries from point to point -/

/-- The scratch row the body reads at a point: the last row it stored at the point before (at the first point the value does not
    matter, and the first block's own row stands for it). -/
def carry (c : Dev nD) (t : Fin cfg3.N) : Vec F S8x1024 .f32 :=
  k3_pay5 (iblk V c 1 ⟨t.val - 1, Nat.lt_of_le_of_lt (Nat.sub_le _ _) t.isLt⟩)

/-- The difference block at point `t` for a scratch holding `xs`. -/
def diffOf (c : Dev nD) (t : Fin cfg3.N) (xs : Vec F S8x1024 .f32) : FVec F S256x1024 .f32 :=
  k3_pay7 (grid3.coords t) (iblk V c 1 t) (View.ld xs (Rect.unit (s := S8x1024) ![7, 0] S1x1024.size inb_S8x1024_S1x1024_7_0)) (iblk V c 2 t) (iblk V c 3 t) (iblk V c 0 t)

/-- The accumulator after point `t`. -/
def acc (c : Dev nD) : (n : ℕ) → n < cfg3.N → Vec F S1x1 .f32
  | 0, h => k3_pay3 (diffOf V c ⟨0, h⟩ (carry V c ⟨0, h⟩)) k3_pay2
  | n + 1, h => k3_pay3 (diffOf V c ⟨n + 1, h⟩ (carry V c ⟨n + 1, h⟩)) (acc c n (Nat.lt_of_succ_lt h))

/-- At the first point the difference block does not read the scratch: the row chosen there is zero. -/
theorem diffOf_first (c : Dev nD) (t : Fin cfg3.N) (ht : t.val = 0) (xs ys : Vec F S8x1024 .f32) : diffOf V c t xs = diffOf V c t ys := by
  have h0 : ((grid3.coords t) 0).val = 0 := by rw [coords3_val]; exact ht
  unfold diffOf k3_pay7
  simp only [h0]
  rfl

/-! ## The proof data -/

/-- The scratch's contents in the invariant before and after the body at a point. -/
def Inv (c : Dev nD) (P : Vec F S8x1024 .f32 → Prop) : sProp 𝕄 :=
  iprop((∃ d, ⌜P d⌝ ∗ owns (c : Thread nD τ) (Memref.whole cc3_scratch0) fullShare d)
    ∗ Pipeline.scopedRestBut (Ix := Ix) (Name := ℕ) (U := U) (Lvl := Lvl) (Val := Elt F) spec3 c [cc3_scratch0] ∗ ∃ r, prngReg c r)

/-- What the scratch is known to hold before point `t`: after the first point, the last rows of the block before. -/
def Known (c : Dev nD) (t : Fin (cfg3.N + 1)) (d : Vec F S8x1024 .f32) : Prop :=
  ∀ h : t.val ≠ 0, d = k3_pay5 (iblk V c 1 ⟨t.val - 1, by have := t.isLt; omega⟩)

/-- The region's proof data: inputs at their blocks, the two row results at the point's payloads, the accumulator at `acc`; the
    invariant holds the scratch at `carry` after the first point. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k3_pay8 (iblk V c 1 t) (iblk V c 0 t)
    | ⟨6, _⟩ => k3_pay1 (iblk V c 0 t) (iblk V c 4 t)
    | ⟨7, _⟩ => acc V c t.val t.isLt
  Φ t := Inv (Ix := Ix) (U := U) (Lvl := Lvl) c (Known V c t)
  q _ := fullShare
  owed _ := D c

variable (ι : Ix)

local notation "𝕕" => dat (Ix := Ix) (U := U) (Lvl := Lvl) V D

/-- The proof data's arrays are the region-entry contents. -/
theorem A_eq (c : Dev nD) (w : Fin cfg3.W) : (𝕕 c).A w = V c (Pipeline.arrRef spec3 w) := by
  dsimp only [dat]

theorem after_0 (c : Dev nD) (t : Fin cfg3.N) : (𝕕 c).after 0 t = iblk V c 0 t := by dsimp only [dat]
theorem after_1 (c : Dev nD) (t : Fin cfg3.N) : (𝕕 c).after 1 t = iblk V c 1 t := by dsimp only [dat]
theorem after_2 (c : Dev nD) (t : Fin cfg3.N) : (𝕕 c).after 2 t = iblk V c 2 t := by dsimp only [dat]
theorem after_3 (c : Dev nD) (t : Fin cfg3.N) : (𝕕 c).after 3 t = iblk V c 3 t := by dsimp only [dat]
theorem after_4 (c : Dev nD) (t : Fin cfg3.N) : (𝕕 c).after 4 t = iblk V c 4 t := by dsimp only [dat]
theorem after_5 (c : Dev nD) (t : Fin cfg3.N) : (𝕕 c).after 5 t = k3_pay8 (iblk V c 1 t) (iblk V c 0 t) := by dsimp only [dat]
theorem after_6 (c : Dev nD) (t : Fin cfg3.N) : (𝕕 c).after 6 t = k3_pay1 (iblk V c 0 t) (iblk V c 4 t) := by dsimp only [dat]
theorem after_7 (c : Dev nD) (t : Fin cfg3.N) : (𝕕 c).after 7 t = acc V c t.val t.isLt := by dsimp only [dat]
theorem before_0 (c : Dev nD) (t : Fin cfg3.N) (d) : (𝕕 c).before 0 t d = iblk V c 0 t :=
  before_0_of V (𝕕 c) (A_eq V D c 0) (after_0 V D c) t d
theorem before_1 (c : Dev nD) (t : Fin cfg3.N) (d) : (𝕕 c).before 1 t d = iblk V c 1 t :=
  before_1_of V (𝕕 c) (A_eq V D c 1) (after_1 V D c) t d
theorem before_2 (c : Dev nD) (t : Fin cfg3.N) (d) : (𝕕 c).before 2 t d = iblk V c 2 t :=
  before_2_of V (𝕕 c) (A_eq V D c 2) (after_2 V D c) t d
theorem before_3 (c : Dev nD) (t : Fin cfg3.N) (d) : (𝕕 c).before 3 t d = iblk V c 3 t :=
  before_3_of V (𝕕 c) (A_eq V D c 3) (after_3 V D c) t d
theorem before_4 (c : Dev nD) (t : Fin cfg3.N) (d) : (𝕕 c).before 4 t d = iblk V c 4 t :=
  before_4_of V (𝕕 c) (A_eq V D c 4) (after_4 V D c) t d

/-- The accumulator's buffer at a later point holds what the point before left. -/
theorem before_7 (c : Dev nD) (t : Fin cfg3.N) (ht : t.val ≠ 0) (d) : (𝕕 c).before 7 t d = acc V c (t.val - 1) (Nat.lt_of_le_of_lt (Nat.sub_le _ _) t.isLt) := by
  have hN : t.val < 8 := t.isLt
  have hf : (cfg3.win 7).flush ⟨t.val - 1, Nat.lt_of_le_of_lt (Nat.sub_le _ _) t.isLt⟩ = false := by
    rw [Bool.eq_false_iff]; intro h; have := (flush3_7 _).mp h; dsimp only at this; omega
  rw [(𝕕 c).before_out_kept 7 rfl t ht hf (fun _ => rfl) (fun _ _ => rfl) d, after_7]

/-! ## The body obligation -/

/-- What the body is called with at point `t`, -/
def bodyPre (c : Dev nD) (t : Fin cfg3.N) : sProp 𝕄 :=
  iprop((𝕕 c).Φ t.castSucc ∗ (𝕕 c).owesAt ι t.castSucc
    ∗ (∃ d, owns (c : Thread nD τ) (ms_0 t) fullShare ((𝕕 c).before 0 t d))
    ∗ (∃ d, owns (c : Thread nD τ) (ms_1 t) fullShare ((𝕕 c).before 1 t d))
    ∗ (∃ d, owns (c : Thread nD τ) (ms_2 t) fullShare ((𝕕 c).before 2 t d))
    ∗ (∃ d, owns (c : Thread nD τ) (ms_3 t) fullShare ((𝕕 c).before 3 t d))
    ∗ (∃ d, owns (c : Thread nD τ) (ms_4 t) fullShare ((𝕕 c).before 4 t d))
    ∗ (∃ d, owns (c : Thread nD τ) (ms_5 t) fullShare ((𝕕 c).before 5 t d))
    ∗ (∃ d, owns (c : Thread nD τ) (ms_6 t) fullShare ((𝕕 c).before 6 t d))
    ∗ (∃ d, owns (c : Thread nD τ) (ms_7 t) fullShare ((𝕕 c).before 7 t d)))

/-- and what it returns. -/
def bodyPost (c : Dev nD) (t : Fin cfg3.N) : sProp 𝕄 :=
  iprop((𝕕 c).Φ t.succ ∗ (𝕕 c).owesAt ι t.succ
    ∗ owns (c : Thread nD τ) (ms_0 t) fullShare ((𝕕 c).after 0 t)
    ∗ owns (c : Thread nD τ) (ms_1 t) fullShare ((𝕕 c).after 1 t)
    ∗ owns (c : Thread nD τ) (ms_2 t) fullShare ((𝕕 c).after 2 t)
    ∗ owns (c : Thread nD τ) (ms_3 t) fullShare ((𝕕 c).after 3 t)
    ∗ owns (c : Thread nD τ) (ms_4 t) fullShare ((𝕕 c).after 4 t)
    ∗ owns (c : Thread nD τ) (ms_5 t) fullShare ((𝕕 c).after 5 t)
    ∗ owns (c : Thread nD τ) (ms_6 t) fullShare ((𝕕 c).after 6 t)
    ∗ owns (c : Thread nD τ) (ms_7 t) fullShare ((𝕕 c).after 7 t))

theorem Φ_pre (c : Dev nD) (t : Fin cfg3.N) : (𝕕 c).Φ t.castSucc = Inv c (Known V c t.castSucc) := rfl
theorem Φ_post (c : Dev nD) (t : Fin cfg3.N) : (𝕕 c).Φ t.succ = Inv c (Known V c t.succ) := rfl

set_option maxHeartbeats 1000000 in
/-- The body at any point. -/
theorem sound_body (c : Dev nD) (t : Fin cfg3.N) :
    bodyPre (U := U) (Lvl := Lvl) V D ι c t ⊢ wp frame (wpE (defs₀ (F := F)) 𝒱₀ c none) Set.univ (bodyAt3 t) (fun _ => bodyPost (U := U) (Lvl := Lvl) V D ι c t) := by
  unfold bodyPre bodyPost bodyAt3
  simp only [before_0, before_1, before_2, before_3, before_4]
  rw [Φ_pre, Φ_post, show (𝕕 c).owesAt ι t.succ = (𝕕 c).owesAt ι t.castSucc from rfl,
    after_0, after_1, after_2, after_3, after_4, after_5, after_6, after_7]
  unfold Inv
  by_cases ht : t.val = 0
  · iintro ⟨⟨⟨%xs, %hx, Hs⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e : acc V c t.val t.isLt = k3_pay3 (diffOf V c t xs) k3_pay2 := by
      obtain ⟨n, hn⟩ := t; obtain rfl : n = 0 := ht
      rw [diffOf_first V c ⟨0, hn⟩ rfl xs (carry V c ⟨0, hn⟩)]; rfl
    iapply (runA 𝒱₀ c (grid3.coords t) _ _ _ _ _ _ _ _ _ _ _ _ _ _ _ _ _ _ (iblk V c 0 t) (iblk V c 1 t) (iblk V c 2 t) (iblk V c 3 t) (iblk V c 4 t) xs (by rw [coords3_val]; exact ht) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [Hs]; · iexact Hs
    iintro ⟨H0, H1, H2, H3, H4, H5, H6, H7, Hs⟩
    isplitl [Hs HR HP]
    · isplitl [Hs]
      · iexists _; isplitr; swap; · iexact Hs
        ipureintro; exact fun _ => rfl
      isplitl [HR]; · iexact HR
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [e]; iexact H7
  · iintro ⟨⟨⟨%xs, %hx, Hs⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hx ht
    rw [before_7 V D c t ht d7]
    have e : acc V c t.val t.isLt = k3_pay3 (diffOf V c t (carry V c t)) (acc V c (t.val - 1) (Nat.lt_of_le_of_lt (Nat.sub_le _ _) t.isLt)) := by
      obtain ⟨n, hn⟩ := t; obtain ⟨k, rfl⟩ := Nat.exists_eq_succ_of_ne_zero ht
      rfl
    iapply (runB 𝒱₀ c (grid3.coords t) _ _ _ _ _ _ _ _ _ _ _ _ _ _ _ _ _ _ (iblk V c 0 t) (iblk V c 1 t) (iblk V c 2 t) (iblk V c 3 t) (iblk V c 4 t) (acc V c (t.val - 1) (Nat.lt_of_le_of_lt (Nat.sub_le _ _) t.isLt)) (carry V c t) (by rw [coords3_val]; exact ht) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [Hs]; · iexact Hs
    iintro ⟨H0, H1, H2, H3, H4, H5, H6, H7, Hs⟩
    isplitl [Hs HR HP]
    · isplitl [Hs]
      · iexists _; isplitr; swap; · iexact Hs
        ipureintro; exact fun _ => rfl
      isplitl [HR]; · iexact HR
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [e]; iexact H7

/-- The body table's row at point `t`'s slots is the body there. -/
theorem defs₀_row (t : Fin cfg3.N) :
    defs₀ (F := F) .tc cfg3.body (cfg3.bodyArgs t (cfg3.slots t)) = bodyAt3 t := by
  unfold defs₀; rw [Defs.onTc_tc]

/-- The library's body obligation, at every point. -/
theorem body_obligation (c : Dev nD) : BodyObligation (𝕕 c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

/-- The scratch held at something, in the two spellings. -/
theorem scratch_eq (c : Dev nD) (d : Vec F S8x1024 .f32) :
    (owns (c : Thread nD τ) (Memref.whole cc3_scratch0) fullShare d : sProp 𝕄) = (((c : Thread nD τ).loc cc3_scratch0) ↦{fullShare} d) :=
  owns_whole (c : Thread nD τ) cc3_scratch0 fullShare d

/-- Entering the region: the scratch at anything is the invariant before the first point. -/
theorem hin (c : Dev nD) :
    iprop(Pipeline.scopedRest (Ix := Ix) (Name := ℕ) (U := U) (Lvl := Lvl) (Val := Elt F) spec3 c ∗ ∃ r, prngReg c r) ⊢ (𝕕 c).Φ 0 := by
  show _ ⊢ Inv c (Known V c 0)
  rw [scopedRest3_split]
  unfold Inv
  simp only [scratch_eq]
  iintro ⟨⟨⟨%f, Hs⟩, HR⟩, HP⟩
  isplitl [Hs]
  · iexists f; isplitr; swap; · iexact Hs
    ipureintro; exact fun h => absurd rfl h
  isplitl [HR]; · iexact HR
  iexact HP

/-- Leaving it: the scratch's contents are forgotten. -/
theorem hout (c : Dev nD) :
    (𝕕 c).Φ (Fin.last cfg3.N) ⊢ iprop(Pipeline.scopedRest (Ix := Ix) (Name := ℕ) (U := U) (Lvl := Lvl) (Val := Elt F) spec3 c ∗ ∃ r, prngReg c r) := by
  show Inv c (Known V c (Fin.last cfg3.N)) ⊢ _
  rw [scopedRest3_split]
  unfold Inv
  simp only [scratch_eq]
  iintro ⟨⟨%d, -, Hs⟩, HR, HP⟩
  isplitr [HP]
  · isplitl [Hs]; · iexists d; iexact Hs
    iexact HR
  iexact HP

end Cert.KernelIdeal.Tail

end
-- ==== Proof.LayersIdeal.lean ====
/-
  What each of the five kernel regions leaves, layer by layer: a region is entered with the buffers as the regions before it and the
  host operations between left them; its proof data say what its result arrays then hold; and that is the next layer.
-/
module

public import proofs.«01_k».proof.Proof.Gen.KernelIdeal.Regions
public import proofs.«01_k».proof.Proof.Gen.Own.KernelIdeal.K0.Frame
public import proofs.«01_k».proof.Proof.Gen.Own.KernelIdeal.K1.Frame
public import proofs.«01_k».proof.Proof.Gen.Own.KernelIdeal.K2.Frame
public import proofs.«01_k».proof.Proof.Gen.Own.KernelIdeal.K4.Frame
public import proofs.«01_k».proof.Proof.TailIdeal
public import Idealize.ShloMosaic.Lib.Pipeline.RegionArrays

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- No core owes another anything. -/
abbrev D₀ : Dev nD → CellTallies nD τ sig Unit := fun _ => 0
/-- The algebra: the rounds of the pipelines' staging cells. -/
abbrev UU : Type := UR sig nD τ

/-! ## Region 0 -/

/-- Region 0's proof data, at the contents it is entered with. -/
def dat0 (c : Dev nD) : Dat τ (Elt F) Unit ℕ UU ℕ cfg0 c :=
  Own.K0.dat Variants.none (fun c b => V1 m c (Proc.devRef .tc b)) D₀ c

/-- What region 0 leaves in its result arrays. -/
def left0 (r : Ref sig .tc) (c : Dev nD) : Buf (Elt F) ((c : Thread nD τ).loc r) :=
  (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (fun r : Ref sig .tc => V1 m c (Proc.devRef .tc r)) main_v73_0 ((dat0 m c).arrAt 9 cfg0.N)) main_v73_1 ((dat0 m c).arrAt 10 cfg0.N)) main_v73_2 ((dat0 m c).arrAt 11 cfg0.N)) main_v73_3 ((dat0 m c).arrAt 12 cfg0.N)) main_v73_4 ((dat0 m c).arrAt 13 cfg0.N)) r
theorem left0_9 (c : Dev nD) : left0 m main_v73_0 c = (dat0 m c).arrAt 9 cfg0.N := by
  unfold left0; simp only [Function.update_of_ne (by decide : (main_v73_0 : Ref sig .tc) ≠ main_v73_1), Function.update_of_ne (by decide : (main_v73_0 : Ref sig .tc) ≠ main_v73_2), Function.update_of_ne (by decide : (main_v73_0 : Ref sig .tc) ≠ main_v73_3), Function.update_of_ne (by decide : (main_v73_0 : Ref sig .tc) ≠ main_v73_4), Function.update_self]
theorem left0_10 (c : Dev nD) : left0 m main_v73_1 c = (dat0 m c).arrAt 10 cfg0.N := by
  unfold left0; simp only [Function.update_of_ne (by decide : (main_v73_1 : Ref sig .tc) ≠ main_v73_2), Function.update_of_ne (by decide : (main_v73_1 : Ref sig .tc) ≠ main_v73_3), Function.update_of_ne (by decide : (main_v73_1 : Ref sig .tc) ≠ main_v73_4), Function.update_self]
theorem left0_11 (c : Dev nD) : left0 m main_v73_2 c = (dat0 m c).arrAt 11 cfg0.N := by
  unfold left0; simp only [Function.update_of_ne (by decide : (main_v73_2 : Ref sig .tc) ≠ main_v73_3), Function.update_of_ne (by decide : (main_v73_2 : Ref sig .tc) ≠ main_v73_4), Function.update_self]
theorem left0_12 (c : Dev nD) : left0 m main_v73_3 c = (dat0 m c).arrAt 12 cfg0.N := by
  unfold left0; simp only [Function.update_of_ne (by decide : (main_v73_3 : Ref sig .tc) ≠ main_v73_4), Function.update_self]
theorem left0_13 (c : Dev nD) : left0 m main_v73_4 c = (dat0 m c).arrAt 13 cfg0.N := by
  unfold left0; simp only [Function.update_self]
/-- The contents after the regions up to 0. -/
def outs0 : Outs (F := F) := fun j r c => match j with
  | _ => left0 m r c

/-! ## Region 1 -/

/-- Region 1's proof data, at the contents it is entered with. -/
def dat1 (c : Dev nD) : Dat τ (Elt F) Unit ℕ UU ℕ cfg1 c :=
  Own.K1.dat Variants.none (fun c b => V3 m (outs0 m) c (Proc.devRef .tc b)) D₀ c

/-- What region 1 leaves in its result arrays. -/
def left1 (r : Ref sig .tc) (c : Dev nD) : Buf (Elt F) ((c : Thread nD τ).loc r) :=
  (Function.update (β := fun r : Ref sig .tc => Buf (Elt F) ((c : Thread nD τ).loc r)) (fun r : Ref sig .tc => V3 m (outs0 m) c (Proc.devRef .tc r)) main_v84 ((dat1 m c).arrAt 3 cfg1.N)) r
theorem left1_3 (c : Dev nD) : left1 m main_v84 c = (dat1 m c).arrAt 3 cfg1.N := by
  unfold left1; simp only [Function.update_self]
/-- The contents after the regions up to 1. -/
def outs1 : Outs (F := F) := fun j r c => match j with
  | 2 => left0 m r c
  | _ => left1 m r c

/-! ## Region 2 -/

/-- Region 2's proof data, at the contents it is entered with. -/
def dat2 (c : Dev nD) : Dat τ (Elt F) Unit ℕ UU ℕ cfg2 c :=
  Own.K2.dat Variants.none (fun c b => V5 m (outs1 m) c (Proc.devRef .tc b)) D₀ c

/-- What region 2 leaves in its result arrays. -/
def left2 (r : Ref sig .tc) (c : Dev nD) : Buf (Elt F) ((c : Thread nD τ).loc r) :=
  (Function.update (β := fun r : Ref sig .tc => Buf (Elt F) ((c : Thread nD τ).loc r)) (fun r : Ref sig .tc => V5 m (outs1 m) c (Proc.devRef .tc r)) main_v92 ((dat2 m c).arrAt 7 cfg2.N)) r
theorem left2_7 (c : Dev nD) : left2 m main_v92 c = (dat2 m c).arrAt 7 cfg2.N := by
  unfold left2; simp only [Function.update_self]
/-- The contents after the regions up to 2. -/
def outs2 : Outs (F := F) := fun j r c => match j with
  | 2 => left0 m r c
  | 4 => left1 m r c
  | _ => left2 m r c

/-! ## Region 3 -/

/-- Region 3's proof data, at the contents it is entered with. -/
def dat3 (c : Dev nD) : Dat τ (Elt F) Unit ℕ UU ℕ cfg3 c :=
  Tail.dat (fun c b => V7 m (outs2 m) c (Proc.devRef .tc b)) D₀ c

/-- What region 3 leaves in its result arrays. -/
def left3 (r : Ref sig .tc) (c : Dev nD) : Buf (Elt F) ((c : Thread nD τ).loc r) :=
  (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (fun r : Ref sig .tc => V7 m (outs2 m) c (Proc.devRef .tc r)) main_v95_0 ((dat3 m c).arrAt 5 cfg3.N)) main_v95_1 ((dat3 m c).arrAt 6 cfg3.N)) main_v95_2 ((dat3 m c).arrAt 7 cfg3.N)) r
theorem left3_5 (c : Dev nD) : left3 m main_v95_0 c = (dat3 m c).arrAt 5 cfg3.N := by
  unfold left3; simp only [Function.update_of_ne (by decide : (main_v95_0 : Ref sig .tc) ≠ main_v95_1), Function.update_of_ne (by decide : (main_v95_0 : Ref sig .tc) ≠ main_v95_2), Function.update_self]
theorem left3_6 (c : Dev nD) : left3 m main_v95_1 c = (dat3 m c).arrAt 6 cfg3.N := by
  unfold left3; simp only [Function.update_of_ne (by decide : (main_v95_1 : Ref sig .tc) ≠ main_v95_2), Function.update_self]
theorem left3_7 (c : Dev nD) : left3 m main_v95_2 c = (dat3 m c).arrAt 7 cfg3.N := by
  unfold left3; simp only [Function.update_self]
/-- The contents after the regions up to 3. -/
def outs3 : Outs (F := F) := fun j r c => match j with
  | 2 => left0 m r c
  | 4 => left1 m r c
  | 6 => left2 m r c
  | _ => left3 m r c

/-! ## Region 4 -/

/-- Region 4's proof data, at the contents it is entered with. -/
def dat4 (c : Dev nD) : Dat τ (Elt F) Unit ℕ UU ℕ cfg4 c :=
  Own.K4.dat Variants.none (fun c b => V8 m (outs3 m) c (Proc.devRef .tc b)) D₀ c

/-- What region 4 leaves in its result arrays. -/
def left4 (r : Ref sig .tc) (c : Dev nD) : Buf (Elt F) ((c : Thread nD τ).loc r) :=
  (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (Function.update (β := fun r : Ref sig .tc => Buf (Elt F) ((c : Thread nD τ).loc r)) (fun r : Ref sig .tc => V8 m (outs3 m) c (Proc.devRef .tc r)) main_v96_0 ((dat4 m c).arrAt 3 cfg4.N)) main_v96_1 ((dat4 m c).arrAt 4 cfg4.N)) main_v96_2 ((dat4 m c).arrAt 5 cfg4.N)) main_v96_3 ((dat4 m c).arrAt 6 cfg4.N)) main_v96_4 ((dat4 m c).arrAt 7 cfg4.N)) r
theorem left4_3 (c : Dev nD) : left4 m main_v96_0 c = (dat4 m c).arrAt 3 cfg4.N := by
  unfold left4; simp only [Function.update_of_ne (by decide : (main_v96_0 : Ref sig .tc) ≠ main_v96_1), Function.update_of_ne (by decide : (main_v96_0 : Ref sig .tc) ≠ main_v96_2), Function.update_of_ne (by decide : (main_v96_0 : Ref sig .tc) ≠ main_v96_3), Function.update_of_ne (by decide : (main_v96_0 : Ref sig .tc) ≠ main_v96_4), Function.update_self]
theorem left4_4 (c : Dev nD) : left4 m main_v96_1 c = (dat4 m c).arrAt 4 cfg4.N := by
  unfold left4; simp only [Function.update_of_ne (by decide : (main_v96_1 : Ref sig .tc) ≠ main_v96_2), Function.update_of_ne (by decide : (main_v96_1 : Ref sig .tc) ≠ main_v96_3), Function.update_of_ne (by decide : (main_v96_1 : Ref sig .tc) ≠ main_v96_4), Function.update_self]
theorem left4_5 (c : Dev nD) : left4 m main_v96_2 c = (dat4 m c).arrAt 5 cfg4.N := by
  unfold left4; simp only [Function.update_of_ne (by decide : (main_v96_2 : Ref sig .tc) ≠ main_v96_3), Function.update_of_ne (by decide : (main_v96_2 : Ref sig .tc) ≠ main_v96_4), Function.update_self]
theorem left4_6 (c : Dev nD) : left4 m main_v96_3 c = (dat4 m c).arrAt 6 cfg4.N := by
  unfold left4; simp only [Function.update_of_ne (by decide : (main_v96_3 : Ref sig .tc) ≠ main_v96_4), Function.update_self]
theorem left4_7 (c : Dev nD) : left4 m main_v96_4 c = (dat4 m c).arrAt 7 cfg4.N := by
  unfold left4; simp only [Function.update_self]
/-- The contents after every region. -/
def outsAll : Outs (F := F) := fun j r c => match j with
  | 2 => left0 m r c
  | 4 => left1 m r c
  | 6 => left2 m r c
  | 8 => left3 m r c
  | _ => left4 m r c

/-! ## A region is entered with what the layers before it say -/
/-- The valuation region 1 is entered with reads the layers before it only. -/
theorem V3_congr {o o' : Outs (F := F)} (h2 : ∀ r c, o 2 r c = o' 2 r c) : V3 m o = V3 m o' := by
  funext c; simp only [V3, V2, h2]
theorem enter1 : V3 m (outsAll m) = V3 m (outs0 m) := V3_congr m (fun _ _ => rfl)
/-- The valuation region 2 is entered with reads the layers before it only. -/
theorem V5_congr {o o' : Outs (F := F)} (h2 : ∀ r c, o 2 r c = o' 2 r c) (h4 : ∀ r c, o 4 r c = o' 4 r c) : V5 m o = V5 m o' := by
  funext c; simp only [V5, V4, h4]; rw [V3_congr (o := o) (o' := o') m h2]
theorem enter2 : V5 m (outsAll m) = V5 m (outs1 m) := V5_congr m (fun _ _ => rfl) (fun _ _ => rfl)
/-- The valuation region 3 is entered with reads the layers before it only. -/
theorem V7_congr {o o' : Outs (F := F)} (h2 : ∀ r c, o 2 r c = o' 2 r c) (h4 : ∀ r c, o 4 r c = o' 4 r c) (h6 : ∀ r c, o 6 r c = o' 6 r c) : V7 m o = V7 m o' := by
  funext c; simp only [V7, V6, h6]; rw [V5_congr (o := o) (o' := o') m h2 h4]
theorem enter3 : V7 m (outsAll m) = V7 m (outs2 m) := V7_congr m (fun _ _ => rfl) (fun _ _ => rfl) (fun _ _ => rfl)
/-- The valuation region 4 is entered with reads the layers before it only. -/
theorem V8_congr {o o' : Outs (F := F)} (h2 : ∀ r c, o 2 r c = o' 2 r c) (h4 : ∀ r c, o 4 r c = o' 4 r c) (h6 : ∀ r c, o 6 r c = o' 6 r c) (h8 : ∀ r c, o 8 r c = o' 8 r c) : V8 m o = V8 m o' := by
  funext c; simp only [V8, h8]; rw [V7_congr (o := o) (o' := o') m h2 h4 h6]
theorem enter4 : V8 m (outsAll m) = V8 m (outs3 m) := V8_congr m (fun _ _ => rfl) (fun _ _ => rfl) (fun _ _ => rfl) (fun _ _ => rfl)

/-- The regions' proof data together. -/
def pdats : (p : Fin 5) → (c : Dev nD) → Dat τ (Elt F) Unit ℕ UU ℕ (cfgs p) c
  | ⟨0, _⟩ => dat0 m
  | ⟨1, _⟩ => dat1 m
  | ⟨2, _⟩ => dat2 m
  | ⟨3, _⟩ => dat3 m
  | ⟨4, _⟩ => dat4 m

end Cert.KernelIdeal.Run

end
-- ==== Proof.RecordsIdeal.lean ====
/-
  The five regions' segment records: each region entered from the buffers held at one valuation and left at the next, its arrays
  changed as its proof data say and every other buffer kept.
-/
module

public import proofs.«01_k».proof.Proof.LayersIdeal
public import Idealize.ShloMosaic.Lib.Pipeline.RegionArrays

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- The TensorCore's cells are levelled, all alike. -/
def L₀ : GSem nD τ sig → Finset Unit := fun g => if g.1.2 = .tc then {()} else ∅
abbrev lv₀ : GSem nD τ sig → Unit → ℕ := fun _ _ => 0

theorem cut (p : Fin 5) : Pipeline.LevelCut (pcfgs (F := F)) adm () L₀ lv₀ p D₀ (fun _ => 0) where
  hι c w s := by unfold L₀; rw [if_pos rfl]; exact Finset.mem_singleton_self _
  hιb c w s := Nat.le_refl _
  hD c g i h := absurd h (Nat.lt_irrefl 0)

/-- What rides between two regions beside the buffers: the core's random-number register and that it owes nothing. -/
abbrev E₀ (c : Dev nD) : sProp (MT nD τ sig Unit (Elt F) ℕ UU ℕ) := iprop((∃ r, prngReg c r) ∗ ∃ W, owes (c : Thread nD τ) (D₀ c) W)

/-! ## Region 0 -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_sub : Pipeline.arrRefs (τ := τ) spec0 ⊆ Pipeline.ucRefs τ sig :=
  Pipeline.arrRefs_sub_ucRefs spec0 (by decide)
theorem V2_at_main_v73_0 (c : Dev nD) : V2 m (outsAll m) c (Proc.devRef .tc main_v73_0) = outsAll m 2 main_v73_0 c := by
  simp only [V2, Function.update_of_ne (StableHlo.devRef_ne_of_ne (by decide : (main_v73_0 : Ref sig .tc) ≠ main_v73_1)), Function.update_of_ne (StableHlo.devRef_ne_of_ne (by decide : (main_v73_0 : Ref sig .tc) ≠ main_v73_2)), Function.update_of_ne (StableHlo.devRef_ne_of_ne (by decide : (main_v73_0 : Ref sig .tc) ≠ main_v73_3)), Function.update_of_ne (StableHlo.devRef_ne_of_ne (by decide : (main_v73_0 : Ref sig .tc) ≠ main_v73_4)), Function.update_self]
theorem V2_at_main_v73_1 (c : Dev nD) : V2 m (outsAll m) c (Proc.devRef .tc main_v73_1) = outsAll m 2 main_v73_1 c := by
  simp only [V2, Function.update_of_ne (StableHlo.devRef_ne_of_ne (by decide : (main_v73_1 : Ref sig .tc) ≠ main_v73_2)), Function.update_of_ne (StableHlo.devRef_ne_of_ne (by decide : (main_v73_1 : Ref sig .tc) ≠ main_v73_3)), Function.update_of_ne (StableHlo.devRef_ne_of_ne (by decide : (main_v73_1 : Ref sig .tc) ≠ main_v73_4)), Function.update_self]
theorem V2_at_main_v73_2 (c : Dev nD) : V2 m (outsAll m) c (Proc.devRef .tc main_v73_2) = outsAll m 2 main_v73_2 c := by
  simp only [V2, Function.update_of_ne (StableHlo.devRef_ne_of_ne (by decide : (main_v73_2 : Ref sig .tc) ≠ main_v73_3)), Function.update_of_ne (StableHlo.devRef_ne_of_ne (by decide : (main_v73_2 : Ref sig .tc) ≠ main_v73_4)), Function.update_self]
theorem V2_at_main_v73_3 (c : Dev nD) : V2 m (outsAll m) c (Proc.devRef .tc main_v73_3) = outsAll m 2 main_v73_3 c := by
  simp only [V2, Function.update_of_ne (StableHlo.devRef_ne_of_ne (by decide : (main_v73_3 : Ref sig .tc) ≠ main_v73_4)), Function.update_self]
theorem V2_at_main_v73_4 (c : Dev nD) : V2 m (outsAll m) c (Proc.devRef .tc main_v73_4) = outsAll m 2 main_v73_4 c := by
  simp only [V2, Function.update_self]
theorem rest0 (c : Dev nD) : ∀ b ∈ (Pipeline.ucRefs τ sig) \ Pipeline.arrRefs (τ := τ) spec0, V2 m (outsAll m) c b = V1 m c b := fun b hb => by
  have hn : b ∉ Pipeline.arrRefs (τ := τ) spec0 := (Finset.mem_sdiff.mp hb).2
  have h_main_v73_0 : b ≠ Proc.devRef .tc main_v73_0 := by rintro rfl; exact hn (by first | exact arr0_mem 9 | decide)
  have h_main_v73_1 : b ≠ Proc.devRef .tc main_v73_1 := by rintro rfl; exact hn (by first | exact arr0_mem 10 | decide)
  have h_main_v73_2 : b ≠ Proc.devRef .tc main_v73_2 := by rintro rfl; exact hn (by first | exact arr0_mem 11 | decide)
  have h_main_v73_3 : b ≠ Proc.devRef .tc main_v73_3 := by rintro rfl; exact hn (by first | exact arr0_mem 12 | decide)
  have h_main_v73_4 : b ≠ Proc.devRef .tc main_v73_4 := by rintro rfl; exact hn (by first | exact arr0_mem 13 | decide)
  simp only [V2, Function.update_of_ne h_main_v73_0, Function.update_of_ne h_main_v73_1, Function.update_of_ne h_main_v73_2, Function.update_of_ne h_main_v73_3, Function.update_of_ne h_main_v73_4]
theorem in0_0 (c : Dev nD) : (dat0 m c).arrAt 0 cfg0.N = V2 m (outsAll m) c (Proc.devRef .tc (Pipeline.arrRef spec0 0)) := by
  rw [V2_of m (outsAll m) c (Pipeline.arrRef spec0 0) (by decide), (dat0 m c).arrAt_in 0 rfl]
  unfold dat0; rw [Own.K0.A_eq Variants.none]
theorem in0_1 (c : Dev nD) : (dat0 m c).arrAt 1 cfg0.N = V2 m (outsAll m) c (Proc.devRef .tc (Pipeline.arrRef spec0 1)) := by
  rw [V2_of m (outsAll m) c (Pipeline.arrRef spec0 1) (by decide), (dat0 m c).arrAt_in 1 rfl]
  unfold dat0; rw [Own.K0.A_eq Variants.none]
theorem in0_2 (c : Dev nD) : (dat0 m c).arrAt 2 cfg0.N = V2 m (outsAll m) c (Proc.devRef .tc (Pipeline.arrRef spec0 2)) := by
  rw [V2_of m (outsAll m) c (Pipeline.arrRef spec0 2) (by decide), (dat0 m c).arrAt_in 2 rfl]
  unfold dat0; rw [Own.K0.A_eq Variants.none]
theorem in0_3 (c : Dev nD) : (dat0 m c).arrAt 3 cfg0.N = V2 m (outsAll m) c (Proc.devRef .tc (Pipeline.arrRef spec0 3)) := by
  rw [V2_of m (outsAll m) c (Pipeline.arrRef spec0 3) (by decide), (dat0 m c).arrAt_in 3 rfl]
  unfold dat0; rw [Own.K0.A_eq Variants.none]
theorem in0_4 (c : Dev nD) : (dat0 m c).arrAt 4 cfg0.N = V2 m (outsAll m) c (Proc.devRef .tc (Pipeline.arrRef spec0 4)) := by
  rw [V2_of m (outsAll m) c (Pipeline.arrRef spec0 4) (by decide), (dat0 m c).arrAt_in 4 rfl]
  unfold dat0; rw [Own.K0.A_eq Variants.none]
theorem in0_5 (c : Dev nD) : (dat0 m c).arrAt 5 cfg0.N = V2 m (outsAll m) c (Proc.devRef .tc (Pipeline.arrRef spec0 5)) := by
  rw [V2_of m (outsAll m) c (Pipeline.arrRef spec0 5) (by decide), (dat0 m c).arrAt_in 5 rfl]
  unfold dat0; rw [Own.K0.A_eq Variants.none]
theorem in0_6 (c : Dev nD) : (dat0 m c).arrAt 6 cfg0.N = V2 m (outsAll m) c (Proc.devRef .tc (Pipeline.arrRef spec0 6)) := by
  rw [V2_of m (outsAll m) c (Pipeline.arrRef spec0 6) (by decide), (dat0 m c).arrAt_in 6 rfl]
  unfold dat0; rw [Own.K0.A_eq Variants.none]
theorem in0_7 (c : Dev nD) : (dat0 m c).arrAt 7 cfg0.N = V2 m (outsAll m) c (Proc.devRef .tc (Pipeline.arrRef spec0 7)) := by
  rw [V2_of m (outsAll m) c (Pipeline.arrRef spec0 7) (by decide), (dat0 m c).arrAt_in 7 rfl]
  unfold dat0; rw [Own.K0.A_eq Variants.none]
theorem in0_8 (c : Dev nD) : (dat0 m c).arrAt 8 cfg0.N = V2 m (outsAll m) c (Proc.devRef .tc (Pipeline.arrRef spec0 8)) := by
  rw [V2_of m (outsAll m) c (Pipeline.arrRef spec0 8) (by decide), (dat0 m c).arrAt_in 8 rfl]
  unfold dat0; rw [Own.K0.A_eq Variants.none]
theorem out0_9 (c : Dev nD) : (dat0 m c).arrAt 9 cfg0.N = V2 m (outsAll m) c (Proc.devRef .tc (Pipeline.arrRef spec0 9)) :=
  ((V2_at_main_v73_0 m c).trans (left0_9 m c)).symm
theorem out0_10 (c : Dev nD) : (dat0 m c).arrAt 10 cfg0.N = V2 m (outsAll m) c (Proc.devRef .tc (Pipeline.arrRef spec0 10)) :=
  ((V2_at_main_v73_1 m c).trans (left0_10 m c)).symm
theorem out0_11 (c : Dev nD) : (dat0 m c).arrAt 11 cfg0.N = V2 m (outsAll m) c (Proc.devRef .tc (Pipeline.arrRef spec0 11)) :=
  ((V2_at_main_v73_2 m c).trans (left0_11 m c)).symm
theorem out0_12 (c : Dev nD) : (dat0 m c).arrAt 12 cfg0.N = V2 m (outsAll m) c (Proc.devRef .tc (Pipeline.arrRef spec0 12)) :=
  ((V2_at_main_v73_3 m c).trans (left0_12 m c)).symm
theorem out0_13 (c : Dev nD) : (dat0 m c).arrAt 13 cfg0.N = V2 m (outsAll m) c (Proc.devRef .tc (Pipeline.arrRef spec0 13)) :=
  ((V2_at_main_v73_4 m c).trans (left0_13 m c)).symm
theorem entry0 (c : Dev nD) (w : Fin cfg0.W) : (dat0 m c).arrAt w 0 = V1 m c (Proc.devRef .tc (Pipeline.arrRef spec0 w)) := rfl
set_option maxHeartbeats 2000000 in
theorem exit0 (c : Dev nD) : ∀ w : Fin cfg0.W, (dat0 m c).arrAt w cfg0.N = V2 m (outsAll m) c (Proc.devRef .tc (Pipeline.arrRef spec0 w))
  | ⟨0, _⟩ => in0_0 m c | ⟨1, _⟩ => in0_1 m c | ⟨2, _⟩ => in0_2 m c | ⟨3, _⟩ => in0_3 m c | ⟨4, _⟩ => in0_4 m c | ⟨5, _⟩ => in0_5 m c | ⟨6, _⟩ => in0_6 m c | ⟨7, _⟩ => in0_7 m c | ⟨8, _⟩ => in0_8 m c | ⟨9, _⟩ => out0_9 m c | ⟨10, _⟩ => out0_10 m c | ⟨11, _⟩ => out0_11 m c | ⟨12, _⟩ => out0_12 m c | ⟨13, _⟩ => out0_13 m c
  | ⟨n + 14, h⟩ => absurd h (Nat.not_lt.2 (Nat.le_add_left _ _))
theorem obligation0 (c : Dev nD) : Pipeline.BodyObligationLoose (dat0 m c) (defs₀ (F := F)) Variants.none () Set.univ :=
  (Own.K0.body_obligation (U := UU) (Lvl := ℕ) Variants.none (fun c b => V1 m c (Proc.devRef .tc b)) D₀ () c).loose

set_option backward.isDefEq.respectTransparency.types false in
set_option maxHeartbeats 2000000 in
/-- Region 0's record. -/
def reg0 : RegionSeg (pcfgs (F := F)) adm (pdats m) () defs₀ Variants.none L₀ lv₀ 0 :=
  Pipeline.RegionSeg.ofHeld (pcfgs (F := F)) adm (pdats m) () defs₀ Variants.none L₀ lv₀ 0 D₀
    (fun c => iprop(∃ r, prngReg c r)) (fun c => iprop(∃ r, prngReg c r))
    launch0.toP rfl (obligation0 m) (fun _ _ => rfl) (fun _ => rfl)
    (fun c => (dat0 m c).share_full fun _ => rfl) (fun _ => .rfl) (fun _ => .rfl) (fun _ => 0) (cut 0)
    (fun c => StableHlo.held (c : Thread nD τ) ((Pipeline.ucRefs τ sig) \ Pipeline.arrRefs (τ := τ) spec0) (V1 m c))
    (V1 m) (V2 m (outsAll m)) (entry0 m) (exit0 m)

theorem pre0 (c : Dev nD) :
    iprop(StableHlo.held (c : Thread nD τ) (Pipeline.ucRefs τ sig) (V1 m c) ∗ E₀ c) ⊢ (reg0 m).pre c := by
  show _ ⊢ iprop(StableHlo.held (c : Thread nD τ) (Pipeline.arrRefs (τ := τ) spec0) (V1 m c) ∗ (∃ r, prngReg c r)
    ∗ StableHlo.held (c : Thread nD τ) ((Pipeline.ucRefs τ sig) \ Pipeline.arrRefs (τ := τ) spec0) (V1 m c) ∗ ∃ W, owes (c : Thread nD τ) (D₀ c) W)
  rw [StableHlo.held_sub_split (c : Thread nD τ) arr0_sub (V1 m c)]
  iintro ⟨⟨Ha, Hr⟩, Hp, HO⟩
  isplitl [Ha]; · iexact Ha
  isplitl [Hp]; · iexact Hp
  isplitl [Hr]; · iexact Hr
  iexact HO

theorem post0 (c : Dev nD) :
    (reg0 m).post c ⊢ iprop(StableHlo.held (c : Thread nD τ) (Pipeline.ucRefs τ sig) (V2 m (outsAll m) c) ∗ E₀ c) := by
  show iprop(StableHlo.held (c : Thread nD τ) (Pipeline.arrRefs (τ := τ) spec0) (V2 m (outsAll m) c) ∗ (∃ r, prngReg c r)
    ∗ StableHlo.held (c : Thread nD τ) ((Pipeline.ucRefs τ sig) \ Pipeline.arrRefs (τ := τ) spec0) (V1 m c) ∗ ∃ W, owes (c : Thread nD τ) (D₀ c) W) ⊢ _
  rw [StableHlo.held_sub_split (c : Thread nD τ) arr0_sub (V2 m (outsAll m) c),
    StableHlo.held_congr (c : Thread nD τ) (S := (Pipeline.ucRefs τ sig) \ Pipeline.arrRefs (τ := τ) spec0) (rest0 m c)]
  iintro ⟨Ha, Hp, Hr, HO⟩
  isplitl [Ha Hr]; · isplitl [Ha] <;> iassumption
  isplitl [Hp]; · iexact Hp
  iexact HO

/-! ## Region 1 -/

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_sub : Pipeline.arrRefs (τ := τ) spec1 ⊆ Pipeline.ucRefs τ sig :=
  Pipeline.arrRefs_sub_ucRefs spec1 (by decide)
theorem V4_at_main_v84 (c : Dev nD) : V4 m (outsAll m) c (Proc.devRef .tc main_v84) = outsAll m 4 main_v84 c := by
  simp only [V4, Function.update_self]
theorem rest1 (c : Dev nD) : ∀ b ∈ (Pipeline.ucRefs τ sig) \ Pipeline.arrRefs (τ := τ) spec1, V4 m (outsAll m) c b = V3 m (outsAll m) c b := fun b hb => by
  have hn : b ∉ Pipeline.arrRefs (τ := τ) spec1 := (Finset.mem_sdiff.mp hb).2
  have h_main_v84 : b ≠ Proc.devRef .tc main_v84 := by rintro rfl; exact hn (by first | exact arr1_mem 3 | decide)
  simp only [V4, Function.update_of_ne h_main_v84]
theorem in1_0 (c : Dev nD) : (dat1 m c).arrAt 0 cfg1.N = V4 m (outsAll m) c (Proc.devRef .tc (Pipeline.arrRef spec1 0)) := by
  rw [V4_of m (outsAll m) c (Pipeline.arrRef spec1 0) (by decide), (dat1 m c).arrAt_in 0 rfl]
  unfold dat1; rw [Own.K1.A_eq Variants.none]; rw [enter1]
theorem in1_1 (c : Dev nD) : (dat1 m c).arrAt 1 cfg1.N = V4 m (outsAll m) c (Proc.devRef .tc (Pipeline.arrRef spec1 1)) := by
  rw [V4_of m (outsAll m) c (Pipeline.arrRef spec1 1) (by decide), (dat1 m c).arrAt_in 1 rfl]
  unfold dat1; rw [Own.K1.A_eq Variants.none]; rw [enter1]
theorem in1_2 (c : Dev nD) : (dat1 m c).arrAt 2 cfg1.N = V4 m (outsAll m) c (Proc.devRef .tc (Pipeline.arrRef spec1 2)) := by
  rw [V4_of m (outsAll m) c (Pipeline.arrRef spec1 2) (by decide), (dat1 m c).arrAt_in 2 rfl]
  unfold dat1; rw [Own.K1.A_eq Variants.none]; rw [enter1]
theorem out1_3 (c : Dev nD) : (dat1 m c).arrAt 3 cfg1.N = V4 m (outsAll m) c (Proc.devRef .tc (Pipeline.arrRef spec1 3)) :=
  ((V4_at_main_v84 m c).trans (left1_3 m c)).symm
theorem entry1 (c : Dev nD) (w : Fin cfg1.W) : (dat1 m c).arrAt w 0 = V3 m (outsAll m) c (Proc.devRef .tc (Pipeline.arrRef spec1 w)) := rfl
set_option maxHeartbeats 2000000 in
theorem exit1 (c : Dev nD) : ∀ w : Fin cfg1.W, (dat1 m c).arrAt w cfg1.N = V4 m (outsAll m) c (Proc.devRef .tc (Pipeline.arrRef spec1 w))
  | ⟨0, _⟩ => in1_0 m c | ⟨1, _⟩ => in1_1 m c | ⟨2, _⟩ => in1_2 m c | ⟨3, _⟩ => out1_3 m c
  | ⟨n + 4, h⟩ => absurd h (Nat.not_lt.2 (Nat.le_add_left _ _))
theorem obligation1 (c : Dev nD) : Pipeline.BodyObligationLoose (dat1 m c) (defs₀ (F := F)) Variants.none () Set.univ :=
  (Own.K1.body_obligation (U := UU) (Lvl := ℕ) Variants.none (fun c b => V3 m (outs0 m) c (Proc.devRef .tc b)) D₀ () c).loose

set_option backward.isDefEq.respectTransparency.types false in
set_option maxHeartbeats 2000000 in
/-- Region 1's record. -/
def reg1 : RegionSeg (pcfgs (F := F)) adm (pdats m) () defs₀ Variants.none L₀ lv₀ 1 :=
  Pipeline.RegionSeg.ofHeld (pcfgs (F := F)) adm (pdats m) () defs₀ Variants.none L₀ lv₀ 1 D₀
    (fun c => iprop(∃ r, prngReg c r)) (fun c => iprop(∃ r, prngReg c r))
    launch1.toP rfl (obligation1 m) (fun _ _ => rfl) (fun _ => rfl)
    (fun c => (dat1 m c).share_full fun _ => rfl) (fun _ => .rfl) (fun _ => .rfl) (fun _ => 0) (cut 1)
    (fun c => StableHlo.held (c : Thread nD τ) ((Pipeline.ucRefs τ sig) \ Pipeline.arrRefs (τ := τ) spec1) (V3 m (outsAll m) c))
    (V3 m (outsAll m)) (V4 m (outsAll m)) (entry1 m) (exit1 m)

theorem pre1 (c : Dev nD) :
    iprop(StableHlo.held (c : Thread nD τ) (Pipeline.ucRefs τ sig) (V3 m (outsAll m) c) ∗ E₀ c) ⊢ (reg1 m).pre c := by
  show _ ⊢ iprop(StableHlo.held (c : Thread nD τ) (Pipeline.arrRefs (τ := τ) spec1) (V3 m (outsAll m) c) ∗ (∃ r, prngReg c r)
    ∗ StableHlo.held (c : Thread nD τ) ((Pipeline.ucRefs τ sig) \ Pipeline.arrRefs (τ := τ) spec1) (V3 m (outsAll m) c) ∗ ∃ W, owes (c : Thread nD τ) (D₀ c) W)
  rw [StableHlo.held_sub_split (c : Thread nD τ) arr1_sub (V3 m (outsAll m) c)]
  iintro ⟨⟨Ha, Hr⟩, Hp, HO⟩
  isplitl [Ha]; · iexact Ha
  isplitl [Hp]; · iexact Hp
  isplitl [Hr]; · iexact Hr
  iexact HO

theorem post1 (c : Dev nD) :
    (reg1 m).post c ⊢ iprop(StableHlo.held (c : Thread nD τ) (Pipeline.ucRefs τ sig) (V4 m (outsAll m) c) ∗ E₀ c) := by
  show iprop(StableHlo.held (c : Thread nD τ) (Pipeline.arrRefs (τ := τ) spec1) (V4 m (outsAll m) c) ∗ (∃ r, prngReg c r)
    ∗ StableHlo.held (c : Thread nD τ) ((Pipeline.ucRefs τ sig) \ Pipeline.arrRefs (τ := τ) spec1) (V3 m (outsAll m) c) ∗ ∃ W, owes (c : Thread nD τ) (D₀ c) W) ⊢ _
  rw [StableHlo.held_sub_split (c : Thread nD τ) arr1_sub (V4 m (outsAll m) c),
    StableHlo.held_congr (c : Thread nD τ) (S := (Pipeline.ucRefs τ sig) \ Pipeline.arrRefs (τ := τ) spec1) (rest1 m c)]
  iintro ⟨Ha, Hp, Hr, HO⟩
  isplitl [Ha Hr]; · isplitl [Ha] <;> iassumption
  isplitl [Hp]; · iexact Hp
  iexact HO

/-! ## Region 2 -/

theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem arr2_sub : Pipeline.arrRefs (τ := τ) spec2 ⊆ Pipeline.ucRefs τ sig :=
  Pipeline.arrRefs_sub_ucRefs spec2 (by decide)
theorem V6_at_main_v92 (c : Dev nD) : V6 m (outsAll m) c (Proc.devRef .tc main_v92) = outsAll m 6 main_v92 c := by
  simp only [V6, Function.update_self]
theorem rest2 (c : Dev nD) : ∀ b ∈ (Pipeline.ucRefs τ sig) \ Pipeline.arrRefs (τ := τ) spec2, V6 m (outsAll m) c b = V5 m (outsAll m) c b := fun b hb => by
  have hn : b ∉ Pipeline.arrRefs (τ := τ) spec2 := (Finset.mem_sdiff.mp hb).2
  have h_main_v92 : b ≠ Proc.devRef .tc main_v92 := by rintro rfl; exact hn (by first | exact arr2_mem 7 | decide)
  simp only [V6, Function.update_of_ne h_main_v92]
theorem in2_0 (c : Dev nD) : (dat2 m c).arrAt 0 cfg2.N = V6 m (outsAll m) c (Proc.devRef .tc (Pipeline.arrRef spec2 0)) := by
  rw [V6_of m (outsAll m) c (Pipeline.arrRef spec2 0) (by decide), (dat2 m c).arrAt_in 0 rfl]
  unfold dat2; rw [Own.K2.A_eq Variants.none]; rw [enter2]
theorem in2_1 (c : Dev nD) : (dat2 m c).arrAt 1 cfg2.N = V6 m (outsAll m) c (Proc.devRef .tc (Pipeline.arrRef spec2 1)) := by
  rw [V6_of m (outsAll m) c (Pipeline.arrRef spec2 1) (by decide), (dat2 m c).arrAt_in 1 rfl]
  unfold dat2; rw [Own.K2.A_eq Variants.none]; rw [enter2]
theorem in2_2 (c : Dev nD) : (dat2 m c).arrAt 2 cfg2.N = V6 m (outsAll m) c (Proc.devRef .tc (Pipeline.arrRef spec2 2)) := by
  rw [V6_of m (outsAll m) c (Pipeline.arrRef spec2 2) (by decide), (dat2 m c).arrAt_in 2 rfl]
  unfold dat2; rw [Own.K2.A_eq Variants.none]; rw [enter2]
theorem in2_3 (c : Dev nD) : (dat2 m c).arrAt 3 cfg2.N = V6 m (outsAll m) c (Proc.devRef .tc (Pipeline.arrRef spec2 3)) := by
  rw [V6_of m (outsAll m) c (Pipeline.arrRef spec2 3) (by decide), (dat2 m c).arrAt_in 3 rfl]
  unfold dat2; rw [Own.K2.A_eq Variants.none]; rw [enter2]
theorem in2_4 (c : Dev nD) : (dat2 m c).arrAt 4 cfg2.N = V6 m (outsAll m) c (Proc.devRef .tc (Pipeline.arrRef spec2 4)) := by
  rw [V6_of m (outsAll m) c (Pipeline.arrRef spec2 4) (by decide), (dat2 m c).arrAt_in 4 rfl]
  unfold dat2; rw [Own.K2.A_eq Variants.none]; rw [enter2]
theorem in2_5 (c : Dev nD) : (dat2 m c).arrAt 5 cfg2.N = V6 m (outsAll m) c (Proc.devRef .tc (Pipeline.arrRef spec2 5)) := by
  rw [V6_of m (outsAll m) c (Pipeline.arrRef spec2 5) (by decide), (dat2 m c).arrAt_in 5 rfl]
  unfold dat2; rw [Own.K2.A_eq Variants.none]; rw [enter2]
theorem in2_6 (c : Dev nD) : (dat2 m c).arrAt 6 cfg2.N = V6 m (outsAll m) c (Proc.devRef .tc (Pipeline.arrRef spec2 6)) := by
  rw [V6_of m (outsAll m) c (Pipeline.arrRef spec2 6) (by decide), (dat2 m c).arrAt_in 6 rfl]
  unfold dat2; rw [Own.K2.A_eq Variants.none]; rw [enter2]
theorem out2_7 (c : Dev nD) : (dat2 m c).arrAt 7 cfg2.N = V6 m (outsAll m) c (Proc.devRef .tc (Pipeline.arrRef spec2 7)) :=
  ((V6_at_main_v92 m c).trans (left2_7 m c)).symm
theorem entry2 (c : Dev nD) (w : Fin cfg2.W) : (dat2 m c).arrAt w 0 = V5 m (outsAll m) c (Proc.devRef .tc (Pipeline.arrRef spec2 w)) := rfl
set_option maxHeartbeats 2000000 in
theorem exit2 (c : Dev nD) : ∀ w : Fin cfg2.W, (dat2 m c).arrAt w cfg2.N = V6 m (outsAll m) c (Proc.devRef .tc (Pipeline.arrRef spec2 w))
  | ⟨0, _⟩ => in2_0 m c | ⟨1, _⟩ => in2_1 m c | ⟨2, _⟩ => in2_2 m c | ⟨3, _⟩ => in2_3 m c | ⟨4, _⟩ => in2_4 m c | ⟨5, _⟩ => in2_5 m c | ⟨6, _⟩ => in2_6 m c | ⟨7, _⟩ => out2_7 m c
  | ⟨n + 8, h⟩ => absurd h (Nat.not_lt.2 (Nat.le_add_left _ _))
theorem obligation2 (c : Dev nD) : Pipeline.BodyObligationLoose (dat2 m c) (defs₀ (F := F)) Variants.none () Set.univ :=
  (Own.K2.body_obligation (U := UU) (Lvl := ℕ) Variants.none (fun c b => V5 m (outs1 m) c (Proc.devRef .tc b)) D₀ () c).loose

set_option backward.isDefEq.respectTransparency.types false in
set_option maxHeartbeats 2000000 in
/-- Region 2's record. -/
def reg2 : RegionSeg (pcfgs (F := F)) adm (pdats m) () defs₀ Variants.none L₀ lv₀ 2 :=
  Pipeline.RegionSeg.ofHeld (pcfgs (F := F)) adm (pdats m) () defs₀ Variants.none L₀ lv₀ 2 D₀
    (fun c => iprop(∃ r, prngReg c r)) (fun c => iprop(∃ r, prngReg c r))
    launch2.toP rfl (obligation2 m) (fun _ _ => rfl) (fun _ => rfl)
    (fun c => (dat2 m c).share_full fun _ => rfl) (fun _ => .rfl) (fun _ => .rfl) (fun _ => 0) (cut 2)
    (fun c => StableHlo.held (c : Thread nD τ) ((Pipeline.ucRefs τ sig) \ Pipeline.arrRefs (τ := τ) spec2) (V5 m (outsAll m) c))
    (V5 m (outsAll m)) (V6 m (outsAll m)) (entry2 m) (exit2 m)

theorem pre2 (c : Dev nD) :
    iprop(StableHlo.held (c : Thread nD τ) (Pipeline.ucRefs τ sig) (V5 m (outsAll m) c) ∗ E₀ c) ⊢ (reg2 m).pre c := by
  show _ ⊢ iprop(StableHlo.held (c : Thread nD τ) (Pipeline.arrRefs (τ := τ) spec2) (V5 m (outsAll m) c) ∗ (∃ r, prngReg c r)
    ∗ StableHlo.held (c : Thread nD τ) ((Pipeline.ucRefs τ sig) \ Pipeline.arrRefs (τ := τ) spec2) (V5 m (outsAll m) c) ∗ ∃ W, owes (c : Thread nD τ) (D₀ c) W)
  rw [StableHlo.held_sub_split (c : Thread nD τ) arr2_sub (V5 m (outsAll m) c)]
  iintro ⟨⟨Ha, Hr⟩, Hp, HO⟩
  isplitl [Ha]; · iexact Ha
  isplitl [Hp]; · iexact Hp
  isplitl [Hr]; · iexact Hr
  iexact HO

theorem post2 (c : Dev nD) :
    (reg2 m).post c ⊢ iprop(StableHlo.held (c : Thread nD τ) (Pipeline.ucRefs τ sig) (V6 m (outsAll m) c) ∗ E₀ c) := by
  show iprop(StableHlo.held (c : Thread nD τ) (Pipeline.arrRefs (τ := τ) spec2) (V6 m (outsAll m) c) ∗ (∃ r, prngReg c r)
    ∗ StableHlo.held (c : Thread nD τ) ((Pipeline.ucRefs τ sig) \ Pipeline.arrRefs (τ := τ) spec2) (V5 m (outsAll m) c) ∗ ∃ W, owes (c : Thread nD τ) (D₀ c) W) ⊢ _
  rw [StableHlo.held_sub_split (c : Thread nD τ) arr2_sub (V6 m (outsAll m) c),
    StableHlo.held_congr (c : Thread nD τ) (S := (Pipeline.ucRefs τ sig) \ Pipeline.arrRefs (τ := τ) spec2) (rest2 m c)]
  iintro ⟨Ha, Hp, Hr, HO⟩
  isplitl [Ha Hr]; · isplitl [Ha] <;> iassumption
  isplitl [Hp]; · iexact Hp
  iexact HO

/-! ## Region 3 -/

theorem arr3_mem (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem arr3_sub : Pipeline.arrRefs (τ := τ) spec3 ⊆ Pipeline.ucRefs τ sig :=
  Pipeline.arrRefs_sub_ucRefs spec3 (by decide)
theorem V8_at_main_v95_0 (c : Dev nD) : V8 m (outsAll m) c (Proc.devRef .tc main_v95_0) = outsAll m 8 main_v95_0 c := by
  simp only [V8, Function.update_of_ne (StableHlo.devRef_ne_of_ne (by decide : (main_v95_0 : Ref sig .tc) ≠ main_v95_1)), Function.update_of_ne (StableHlo.devRef_ne_of_ne (by decide : (main_v95_0 : Ref sig .tc) ≠ main_v95_2)), Function.update_self]
theorem V8_at_main_v95_1 (c : Dev nD) : V8 m (outsAll m) c (Proc.devRef .tc main_v95_1) = outsAll m 8 main_v95_1 c := by
  simp only [V8, Function.update_of_ne (StableHlo.devRef_ne_of_ne (by decide : (main_v95_1 : Ref sig .tc) ≠ main_v95_2)), Function.update_self]
theorem V8_at_main_v95_2 (c : Dev nD) : V8 m (outsAll m) c (Proc.devRef .tc main_v95_2) = outsAll m 8 main_v95_2 c := by
  simp only [V8, Function.update_self]
theorem rest3 (c : Dev nD) : ∀ b ∈ (Pipeline.ucRefs τ sig) \ Pipeline.arrRefs (τ := τ) spec3, V8 m (outsAll m) c b = V7 m (outsAll m) c b := fun b hb => by
  have hn : b ∉ Pipeline.arrRefs (τ := τ) spec3 := (Finset.mem_sdiff.mp hb).2
  have h_main_v95_0 : b ≠ Proc.devRef .tc main_v95_0 := by rintro rfl; exact hn (by first | exact arr3_mem 5 | decide)
  have h_main_v95_1 : b ≠ Proc.devRef .tc main_v95_1 := by rintro rfl; exact hn (by first | exact arr3_mem 6 | decide)
  have h_main_v95_2 : b ≠ Proc.devRef .tc main_v95_2 := by rintro rfl; exact hn (by first | exact arr3_mem 7 | decide)
  simp only [V8, Function.update_of_ne h_main_v95_0, Function.update_of_ne h_main_v95_1, Function.update_of_ne h_main_v95_2]
theorem in3_0 (c : Dev nD) : (dat3 m c).arrAt 0 cfg3.N = V8 m (outsAll m) c (Proc.devRef .tc (Pipeline.arrRef spec3 0)) := by
  rw [V8_of m (outsAll m) c (Pipeline.arrRef spec3 0) (by decide), (dat3 m c).arrAt_in 0 rfl]
  unfold dat3; rw [Tail.A_eq]; rw [enter3]
theorem in3_1 (c : Dev nD) : (dat3 m c).arrAt 1 cfg3.N = V8 m (outsAll m) c (Proc.devRef .tc (Pipeline.arrRef spec3 1)) := by
  rw [V8_of m (outsAll m) c (Pipeline.arrRef spec3 1) (by decide), (dat3 m c).arrAt_in 1 rfl]
  unfold dat3; rw [Tail.A_eq]; rw [enter3]
theorem in3_2 (c : Dev nD) : (dat3 m c).arrAt 2 cfg3.N = V8 m (outsAll m) c (Proc.devRef .tc (Pipeline.arrRef spec3 2)) := by
  rw [V8_of m (outsAll m) c (Pipeline.arrRef spec3 2) (by decide), (dat3 m c).arrAt_in 2 rfl]
  unfold dat3; rw [Tail.A_eq]; rw [enter3]
theorem in3_3 (c : Dev nD) : (dat3 m c).arrAt 3 cfg3.N = V8 m (outsAll m) c (Proc.devRef .tc (Pipeline.arrRef spec3 3)) := by
  rw [V8_of m (outsAll m) c (Pipeline.arrRef spec3 3) (by decide), (dat3 m c).arrAt_in 3 rfl]
  unfold dat3; rw [Tail.A_eq]; rw [enter3]
theorem in3_4 (c : Dev nD) : (dat3 m c).arrAt 4 cfg3.N = V8 m (outsAll m) c (Proc.devRef .tc (Pipeline.arrRef spec3 4)) := by
  rw [V8_of m (outsAll m) c (Pipeline.arrRef spec3 4) (by decide), (dat3 m c).arrAt_in 4 rfl]
  unfold dat3; rw [Tail.A_eq]; rw [enter3]
theorem out3_5 (c : Dev nD) : (dat3 m c).arrAt 5 cfg3.N = V8 m (outsAll m) c (Proc.devRef .tc (Pipeline.arrRef spec3 5)) :=
  ((V8_at_main_v95_0 m c).trans (left3_5 m c)).symm
theorem out3_6 (c : Dev nD) : (dat3 m c).arrAt 6 cfg3.N = V8 m (outsAll m) c (Proc.devRef .tc (Pipeline.arrRef spec3 6)) :=
  ((V8_at_main_v95_1 m c).trans (left3_6 m c)).symm
theorem out3_7 (c : Dev nD) : (dat3 m c).arrAt 7 cfg3.N = V8 m (outsAll m) c (Proc.devRef .tc (Pipeline.arrRef spec3 7)) :=
  ((V8_at_main_v95_2 m c).trans (left3_7 m c)).symm
theorem entry3 (c : Dev nD) (w : Fin cfg3.W) : (dat3 m c).arrAt w 0 = V7 m (outsAll m) c (Proc.devRef .tc (Pipeline.arrRef spec3 w)) := rfl
set_option maxHeartbeats 2000000 in
theorem exit3 (c : Dev nD) : ∀ w : Fin cfg3.W, (dat3 m c).arrAt w cfg3.N = V8 m (outsAll m) c (Proc.devRef .tc (Pipeline.arrRef spec3 w))
  | ⟨0, _⟩ => in3_0 m c | ⟨1, _⟩ => in3_1 m c | ⟨2, _⟩ => in3_2 m c | ⟨3, _⟩ => in3_3 m c | ⟨4, _⟩ => in3_4 m c | ⟨5, _⟩ => out3_5 m c | ⟨6, _⟩ => out3_6 m c | ⟨7, _⟩ => out3_7 m c
  | ⟨n + 8, h⟩ => absurd h (Nat.not_lt.2 (Nat.le_add_left _ _))
theorem obligation3 (c : Dev nD) : Pipeline.BodyObligationLoose (dat3 m c) (defs₀ (F := F)) Variants.none () Set.univ :=
  (Tail.body_obligation (U := UU) (Lvl := ℕ) Variants.none (fun c b => V7 m (outs2 m) c (Proc.devRef .tc b)) D₀ () c).loose

set_option backward.isDefEq.respectTransparency.types false in
set_option maxHeartbeats 2000000 in
/-- Region 3's record. -/
def reg3 : RegionSeg (pcfgs (F := F)) adm (pdats m) () defs₀ Variants.none L₀ lv₀ 3 :=
  Pipeline.RegionSeg.ofHeld (pcfgs (F := F)) adm (pdats m) () defs₀ Variants.none L₀ lv₀ 3 D₀
    (fun c => iprop(∃ r, prngReg c r)) (fun c => iprop(∃ r, prngReg c r))
    launch3.toP rfl (obligation3 m) (fun _ _ => rfl) (fun _ => rfl)
    (fun c => (dat3 m c).share_full fun _ => rfl) (Tail.hin (Ix := Unit) (U := UU) (Lvl := ℕ) (fun c b => V7 m (outs2 m) c (Proc.devRef .tc b)) D₀) (Tail.hout (Ix := Unit) (U := UU) (Lvl := ℕ) (fun c b => V7 m (outs2 m) c (Proc.devRef .tc b)) D₀) (fun _ => 0) (cut 3)
    (fun c => StableHlo.held (c : Thread nD τ) ((Pipeline.ucRefs τ sig) \ Pipeline.arrRefs (τ := τ) spec3) (V7 m (outsAll m) c))
    (V7 m (outsAll m)) (V8 m (outsAll m)) (entry3 m) (exit3 m)

theorem pre3 (c : Dev nD) :
    iprop(StableHlo.held (c : Thread nD τ) (Pipeline.ucRefs τ sig) (V7 m (outsAll m) c) ∗ E₀ c) ⊢ (reg3 m).pre c := by
  show _ ⊢ iprop(StableHlo.held (c : Thread nD τ) (Pipeline.arrRefs (τ := τ) spec3) (V7 m (outsAll m) c) ∗ (∃ r, prngReg c r)
    ∗ StableHlo.held (c : Thread nD τ) ((Pipeline.ucRefs τ sig) \ Pipeline.arrRefs (τ := τ) spec3) (V7 m (outsAll m) c) ∗ ∃ W, owes (c : Thread nD τ) (D₀ c) W)
  rw [StableHlo.held_sub_split (c : Thread nD τ) arr3_sub (V7 m (outsAll m) c)]
  iintro ⟨⟨Ha, Hr⟩, Hp, HO⟩
  isplitl [Ha]; · iexact Ha
  isplitl [Hp]; · iexact Hp
  isplitl [Hr]; · iexact Hr
  iexact HO

theorem post3 (c : Dev nD) :
    (reg3 m).post c ⊢ iprop(StableHlo.held (c : Thread nD τ) (Pipeline.ucRefs τ sig) (V8 m (outsAll m) c) ∗ E₀ c) := by
  show iprop(StableHlo.held (c : Thread nD τ) (Pipeline.arrRefs (τ := τ) spec3) (V8 m (outsAll m) c) ∗ (∃ r, prngReg c r)
    ∗ StableHlo.held (c : Thread nD τ) ((Pipeline.ucRefs τ sig) \ Pipeline.arrRefs (τ := τ) spec3) (V7 m (outsAll m) c) ∗ ∃ W, owes (c : Thread nD τ) (D₀ c) W) ⊢ _
  rw [StableHlo.held_sub_split (c : Thread nD τ) arr3_sub (V8 m (outsAll m) c),
    StableHlo.held_congr (c : Thread nD τ) (S := (Pipeline.ucRefs τ sig) \ Pipeline.arrRefs (τ := τ) spec3) (rest3 m c)]
  iintro ⟨Ha, Hp, Hr, HO⟩
  isplitl [Ha Hr]; · isplitl [Ha] <;> iassumption
  isplitl [Hp]; · iexact Hp
  iexact HO

/-! ## Region 4 -/

theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem arr4_sub : Pipeline.arrRefs (τ := τ) spec4 ⊆ Pipeline.ucRefs τ sig :=
  Pipeline.arrRefs_sub_ucRefs spec4 (by decide)
theorem V9_at_main_v96_0 (c : Dev nD) : V9 m (outsAll m) c (Proc.devRef .tc main_v96_0) = outsAll m 9 main_v96_0 c := by
  simp only [V9, Function.update_of_ne (StableHlo.devRef_ne_of_ne (by decide : (main_v96_0 : Ref sig .tc) ≠ main_v96_1)), Function.update_of_ne (StableHlo.devRef_ne_of_ne (by decide : (main_v96_0 : Ref sig .tc) ≠ main_v96_2)), Function.update_of_ne (StableHlo.devRef_ne_of_ne (by decide : (main_v96_0 : Ref sig .tc) ≠ main_v96_3)), Function.update_of_ne (StableHlo.devRef_ne_of_ne (by decide : (main_v96_0 : Ref sig .tc) ≠ main_v96_4)), Function.update_self]
theorem V9_at_main_v96_1 (c : Dev nD) : V9 m (outsAll m) c (Proc.devRef .tc main_v96_1) = outsAll m 9 main_v96_1 c := by
  simp only [V9, Function.update_of_ne (StableHlo.devRef_ne_of_ne (by decide : (main_v96_1 : Ref sig .tc) ≠ main_v96_2)), Function.update_of_ne (StableHlo.devRef_ne_of_ne (by decide : (main_v96_1 : Ref sig .tc) ≠ main_v96_3)), Function.update_of_ne (StableHlo.devRef_ne_of_ne (by decide : (main_v96_1 : Ref sig .tc) ≠ main_v96_4)), Function.update_self]
theorem V9_at_main_v96_2 (c : Dev nD) : V9 m (outsAll m) c (Proc.devRef .tc main_v96_2) = outsAll m 9 main_v96_2 c := by
  simp only [V9, Function.update_of_ne (StableHlo.devRef_ne_of_ne (by decide : (main_v96_2 : Ref sig .tc) ≠ main_v96_3)), Function.update_of_ne (StableHlo.devRef_ne_of_ne (by decide : (main_v96_2 : Ref sig .tc) ≠ main_v96_4)), Function.update_self]
theorem V9_at_main_v96_3 (c : Dev nD) : V9 m (outsAll m) c (Proc.devRef .tc main_v96_3) = outsAll m 9 main_v96_3 c := by
  simp only [V9, Function.update_of_ne (StableHlo.devRef_ne_of_ne (by decide : (main_v96_3 : Ref sig .tc) ≠ main_v96_4)), Function.update_self]
theorem V9_at_main_v96_4 (c : Dev nD) : V9 m (outsAll m) c (Proc.devRef .tc main_v96_4) = outsAll m 9 main_v96_4 c := by
  simp only [V9, Function.update_self]
theorem rest4 (c : Dev nD) : ∀ b ∈ (Pipeline.ucRefs τ sig) \ Pipeline.arrRefs (τ := τ) spec4, V9 m (outsAll m) c b = V8 m (outsAll m) c b := fun b hb => by
  have hn : b ∉ Pipeline.arrRefs (τ := τ) spec4 := (Finset.mem_sdiff.mp hb).2
  have h_main_v96_0 : b ≠ Proc.devRef .tc main_v96_0 := by rintro rfl; exact hn (by first | exact arr4_mem 3 | decide)
  have h_main_v96_1 : b ≠ Proc.devRef .tc main_v96_1 := by rintro rfl; exact hn (by first | exact arr4_mem 4 | decide)
  have h_main_v96_2 : b ≠ Proc.devRef .tc main_v96_2 := by rintro rfl; exact hn (by first | exact arr4_mem 5 | decide)
  have h_main_v96_3 : b ≠ Proc.devRef .tc main_v96_3 := by rintro rfl; exact hn (by first | exact arr4_mem 6 | decide)
  have h_main_v96_4 : b ≠ Proc.devRef .tc main_v96_4 := by rintro rfl; exact hn (by first | exact arr4_mem 7 | decide)
  simp only [V9, Function.update_of_ne h_main_v96_0, Function.update_of_ne h_main_v96_1, Function.update_of_ne h_main_v96_2, Function.update_of_ne h_main_v96_3, Function.update_of_ne h_main_v96_4]
theorem in4_0 (c : Dev nD) : (dat4 m c).arrAt 0 cfg4.N = V9 m (outsAll m) c (Proc.devRef .tc (Pipeline.arrRef spec4 0)) := by
  rw [V9_of m (outsAll m) c (Pipeline.arrRef spec4 0) (by decide), (dat4 m c).arrAt_in 0 rfl]
  unfold dat4; rw [Own.K4.A_eq Variants.none]; rw [enter4]
theorem in4_1 (c : Dev nD) : (dat4 m c).arrAt 1 cfg4.N = V9 m (outsAll m) c (Proc.devRef .tc (Pipeline.arrRef spec4 1)) := by
  rw [V9_of m (outsAll m) c (Pipeline.arrRef spec4 1) (by decide), (dat4 m c).arrAt_in 1 rfl]
  unfold dat4; rw [Own.K4.A_eq Variants.none]; rw [enter4]
theorem in4_2 (c : Dev nD) : (dat4 m c).arrAt 2 cfg4.N = V9 m (outsAll m) c (Proc.devRef .tc (Pipeline.arrRef spec4 2)) := by
  rw [V9_of m (outsAll m) c (Pipeline.arrRef spec4 2) (by decide), (dat4 m c).arrAt_in 2 rfl]
  unfold dat4; rw [Own.K4.A_eq Variants.none]; rw [enter4]
theorem out4_3 (c : Dev nD) : (dat4 m c).arrAt 3 cfg4.N = V9 m (outsAll m) c (Proc.devRef .tc (Pipeline.arrRef spec4 3)) :=
  ((V9_at_main_v96_0 m c).trans (left4_3 m c)).symm
theorem out4_4 (c : Dev nD) : (dat4 m c).arrAt 4 cfg4.N = V9 m (outsAll m) c (Proc.devRef .tc (Pipeline.arrRef spec4 4)) :=
  ((V9_at_main_v96_1 m c).trans (left4_4 m c)).symm
theorem out4_5 (c : Dev nD) : (dat4 m c).arrAt 5 cfg4.N = V9 m (outsAll m) c (Proc.devRef .tc (Pipeline.arrRef spec4 5)) :=
  ((V9_at_main_v96_2 m c).trans (left4_5 m c)).symm
theorem out4_6 (c : Dev nD) : (dat4 m c).arrAt 6 cfg4.N = V9 m (outsAll m) c (Proc.devRef .tc (Pipeline.arrRef spec4 6)) :=
  ((V9_at_main_v96_3 m c).trans (left4_6 m c)).symm
theorem out4_7 (c : Dev nD) : (dat4 m c).arrAt 7 cfg4.N = V9 m (outsAll m) c (Proc.devRef .tc (Pipeline.arrRef spec4 7)) :=
  ((V9_at_main_v96_4 m c).trans (left4_7 m c)).symm
theorem entry4 (c : Dev nD) (w : Fin cfg4.W) : (dat4 m c).arrAt w 0 = V8 m (outsAll m) c (Proc.devRef .tc (Pipeline.arrRef spec4 w)) := rfl
set_option maxHeartbeats 2000000 in
theorem exit4 (c : Dev nD) : ∀ w : Fin cfg4.W, (dat4 m c).arrAt w cfg4.N = V9 m (outsAll m) c (Proc.devRef .tc (Pipeline.arrRef spec4 w))
  | ⟨0, _⟩ => in4_0 m c | ⟨1, _⟩ => in4_1 m c | ⟨2, _⟩ => in4_2 m c | ⟨3, _⟩ => out4_3 m c | ⟨4, _⟩ => out4_4 m c | ⟨5, _⟩ => out4_5 m c | ⟨6, _⟩ => out4_6 m c | ⟨7, _⟩ => out4_7 m c
  | ⟨n + 8, h⟩ => absurd h (Nat.not_lt.2 (Nat.le_add_left _ _))
theorem obligation4 (c : Dev nD) : Pipeline.BodyObligationLoose (dat4 m c) (defs₀ (F := F)) Variants.none () Set.univ :=
  (Own.K4.body_obligation (U := UU) (Lvl := ℕ) Variants.none (fun c b => V8 m (outs3 m) c (Proc.devRef .tc b)) D₀ () c).loose

set_option backward.isDefEq.respectTransparency.types false in
set_option maxHeartbeats 2000000 in
/-- Region 4's record. -/
def reg4 : RegionSeg (pcfgs (F := F)) adm (pdats m) () defs₀ Variants.none L₀ lv₀ 4 :=
  Pipeline.RegionSeg.ofHeld (pcfgs (F := F)) adm (pdats m) () defs₀ Variants.none L₀ lv₀ 4 D₀
    (fun c => iprop(∃ r, prngReg c r)) (fun c => iprop(∃ r, prngReg c r))
    launch4.toP rfl (obligation4 m) (fun _ _ => rfl) (fun _ => rfl)
    (fun c => (dat4 m c).share_full fun _ => rfl) (fun _ => .rfl) (fun _ => .rfl) (fun _ => 0) (cut 4)
    (fun c => StableHlo.held (c : Thread nD τ) ((Pipeline.ucRefs τ sig) \ Pipeline.arrRefs (τ := τ) spec4) (V8 m (outsAll m) c))
    (V8 m (outsAll m)) (V9 m (outsAll m)) (entry4 m) (exit4 m)

theorem pre4 (c : Dev nD) :
    iprop(StableHlo.held (c : Thread nD τ) (Pipeline.ucRefs τ sig) (V8 m (outsAll m) c) ∗ E₀ c) ⊢ (reg4 m).pre c := by
  show _ ⊢ iprop(StableHlo.held (c : Thread nD τ) (Pipeline.arrRefs (τ := τ) spec4) (V8 m (outsAll m) c) ∗ (∃ r, prngReg c r)
    ∗ StableHlo.held (c : Thread nD τ) ((Pipeline.ucRefs τ sig) \ Pipeline.arrRefs (τ := τ) spec4) (V8 m (outsAll m) c) ∗ ∃ W, owes (c : Thread nD τ) (D₀ c) W)
  rw [StableHlo.held_sub_split (c : Thread nD τ) arr4_sub (V8 m (outsAll m) c)]
  iintro ⟨⟨Ha, Hr⟩, Hp, HO⟩
  isplitl [Ha]; · iexact Ha
  isplitl [Hp]; · iexact Hp
  isplitl [Hr]; · iexact Hr
  iexact HO

theorem post4 (c : Dev nD) :
    (reg4 m).post c ⊢ iprop(StableHlo.held (c : Thread nD τ) (Pipeline.ucRefs τ sig) (V9 m (outsAll m) c) ∗ E₀ c) := by
  show iprop(StableHlo.held (c : Thread nD τ) (Pipeline.arrRefs (τ := τ) spec4) (V9 m (outsAll m) c) ∗ (∃ r, prngReg c r)
    ∗ StableHlo.held (c : Thread nD τ) ((Pipeline.ucRefs τ sig) \ Pipeline.arrRefs (τ := τ) spec4) (V8 m (outsAll m) c) ∗ ∃ W, owes (c : Thread nD τ) (D₀ c) W) ⊢ _
  rw [StableHlo.held_sub_split (c : Thread nD τ) arr4_sub (V9 m (outsAll m) c),
    StableHlo.held_congr (c : Thread nD τ) (S := (Pipeline.ucRefs τ sig) \ Pipeline.arrRefs (τ := τ) spec4) (rest4 m c)]
  iintro ⟨Ha, Hp, Hr, HO⟩
  isplitl [Ha Hr]; · isplitl [Ha] <;> iassumption
  isplitl [Hp]; · iexact Hp
  iexact HO

end Cert.KernelIdeal.Run

end
-- ==== Proof.RunIdeal.lean ====
/-
  The whole program's run: every fair execution terminates, with every buffer of the TensorCore that outlives a region holding what
  the last layer says, and every semaphore counter at zero. The launch is the library's, the records are the five regions'.
-/
module

public import proofs.«01_k».proof.Proof.RecordsIdeal
public import Idealize.ShloMosaic.Lib.Pipeline.FrameTail

@[expose] public section

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

theorem noLevel (g : GSem nD τ sig) (h : g.1.2 ≠ .tc) : L₀ g = ∅ := by unfold L₀; rw [if_neg h]

set_option backward.isDefEq.respectTransparency.types false in
set_option maxHeartbeats 2000000 in
/-- The run of the whole program. -/
theorem run (ρ : Dev nD → PrngReg) :
    θ_run defs (onTc (τ := τ) (main (F := F))) ⟨m, fun _ => 0, ρ⟩ (fun r => (∀ c : Dev nD, ∀ b ∈ Pipeline.ucRefs τ sig,
      r.2.mem ((c.tc : Thread nD τ).1, b) = V10 m (outsAll m) c b) ∧ r.2.sem = fun _ => 0) := by
  refine Pipeline.θ_run_regions_kit_dev_sems (pcfgs (F := F)) adm (pdats m) () cellOf_inj emb₁ defs₀ Variants.none L₀ lv₀ m ρ main
    (segs m (outsAll m) Variants.none L₀ lv₀ (fun _ c => E₀ c) () (pdats m) (reg0 m) (reg1 m) (reg2 m) (reg3 m) (reg4 m))
    (fun c Q => by
      rewrite [main_chain c, Seg.run_eq_chain,
        show (segs m (outsAll m) Variants.none L₀ lv₀ (fun _ c => E₀ c) () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5 ] from rfl]
      dsimp (config := { failIfUnchanged := false }) only
      exact .rfl)
    (fun c => by simp only [segs, Seg.pipes_host, Seg.pipes_region, Seg.pipes_nil]; decide) D₀ noLevel (fun _ => iprop(emp))
    (initOf (Pipeline.cells cfgs cellOf_inj) (Pipeline.launchToks cfgs cellOf_inj))
    (by
      iintro Hu; imodintro
      isplitl [Hu]
      · iapply (show (ownU _ : sProp (MT nD τ sig Unit (Elt F) ℕ UU ℕ)) ⊢ BI.own (emb₁ (initOf (Pipeline.cells cfgs cellOf_inj) (Pipeline.launchToks cfgs cellOf_inj))) from .rfl)
        iexact Hu
      · iapply (show (BI.emp : sProp (MT nD τ sig Unit (Elt F) ℕ UU ℕ)) ⊢ bigSep Finset.univ (fun _ : Dev nD => BI.emp) from by rw [BI.bigSep_emp_const])
        iempintro)
    (T₀ := fun c => iprop(StableHlo.held (c : Thread nD τ) (Pipeline.ucRefs τ sig) (V0 m c) ∗ E₀ c))
    (Tₙ := fun c => StableHlo.held (c : Thread nD τ) (Pipeline.ucRefs τ sig) (V10 m (outsAll m) c))
    (hch := fun c => ⟨.rfl, pre0 m c, post0 m c, pre1 m c, post1 m c, pre2 m c, post2 m c, pre3 m c, (post3 m c).trans (pre4 m c), post4 m c, sep_mono .rfl ?_⟩)
    (hinit := ?_) (QY := fun c s => ∀ b ∈ Pipeline.ucRefs τ sig, s.mem ((c.tc : Thread nD τ).1, b) = V10 m (outsAll m) c b)
    (hfin := fun c s' => ?_) (hQ := fun _ h hz => ⟨h, funext fun g => hz g (.inr (regions_no_unscoped g.2))⟩)
  · iintro ⟨-, HO⟩; iexact HO
  · refine Pipeline.initEach L₀ lv₀ fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UU) (Lvl := ℕ) c (V0 m c)]
    iintro ⟨⟨Hh, -, HO, -, Hp, -⟩, -⟩
    imodintro
    isplitl [Hh]; · iexact Hh
    isplitl [Hp]
    · iexists _; iexact Hp
    · iexists _; iexact HO
  · unfold StableHlo.held
    iintro ⟨Hh, HSI⟩
    ihave Hr := (pointsTo_read_all (Pipeline.ucRefs τ sig) (fun b => ((c : Thread nD τ).1, b)) (V10 m (outsAll m) c) s') $$ [Hh HSI]
    · isplitl [Hh] <;> iassumption
    imodintro
    iexact Hr

end Cert.KernelIdeal.Run

end
-- ==== Proof.ArgsIdeal.lean ====
/-
  The program's frame: from the whole run, every argument unchanged and every counter at zero.
-/
module

public import proofs.«01_k».proof.Defs
public import proofs.«01_k».proof.Proof.RunIdeal
public import proofs.«01_k».proof.Proof.Gen.KernelIdeal

@[expose] public section

noncomputable section

namespace Cert.KernelIdeal.Run

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- A run's buffer that outlives the regions, read at a TensorCore reference. -/
theorem read {s : MemSt nD τ sig (Elt F)} {V : Dev nD → Valuation τ sig (Elt F)}
    (h : ∀ c : Dev nD, ∀ b ∈ Pipeline.ucRefs τ sig, s.mem ((c.tc : Thread nD τ).1, b) = V c b)
    (c : Dev nD) (r : Ref sig .tc) (hr : r.isScoped = false) : s.mem ((c.tc : Thread nD τ).loc r) = V c (Proc.devRef .tc r) :=
  h c (Proc.devRef .tc r) (Pipeline.devRef_mem_ucRefs hr)

/-- Each argument array ends as it began. -/
theorem args {s : MemSt nD τ sig (Elt F)}
    (h : ∀ c : Dev nD, ∀ b ∈ Pipeline.ucRefs τ sig, s.mem ((c.tc : Thread nD τ).1, b) = V10 m (outsAll m) c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19) :=
  ⟨(read h c main_arg0 (by decide)).trans (V10_main_arg0 m (outsAll m) c),
    (read h c main_arg1 (by decide)).trans (V10_main_arg1 m (outsAll m) c),
    (read h c main_arg2 (by decide)).trans (V10_main_arg2 m (outsAll m) c),
    (read h c main_arg3 (by decide)).trans (V10_main_arg3 m (outsAll m) c),
    (read h c main_arg4 (by decide)).trans (V10_main_arg4 m (outsAll m) c),
    (read h c main_arg5 (by decide)).trans (V10_main_arg5 m (outsAll m) c),
    (read h c main_arg6 (by decide)).trans (V10_main_arg6 m (outsAll m) c),
    (read h c main_arg7 (by decide)).trans (V10_main_arg7 m (outsAll m) c),
    (read h c main_arg8 (by decide)).trans (V10_main_arg8 m (outsAll m) c),
    (read h c main_arg9 (by decide)).trans (V10_main_arg9 m (outsAll m) c),
    (read h c main_arg10 (by decide)).trans (V10_main_arg10 m (outsAll m) c),
    (read h c main_arg11 (by decide)).trans (V10_main_arg11 m (outsAll m) c),
    (read h c main_arg12 (by decide)).trans (V10_main_arg12 m (outsAll m) c),
    (read h c main_arg13 (by decide)).trans (V10_main_arg13 m (outsAll m) c),
    (read h c main_arg14 (by decide)).trans (V10_main_arg14 m (outsAll m) c),
    (read h c main_arg15 (by decide)).trans (V10_main_arg15 m (outsAll m) c),
    (read h c main_arg16 (by decide)).trans (V10_main_arg16 m (outsAll m) c),
    (read h c main_arg17 (by decide)).trans (V10_main_arg17 m (outsAll m) c),
    (read h c main_arg18 (by decide)).trans (V10_main_arg18 m (outsAll m) c),
    (read h c main_arg19 (by decide)).trans (V10_main_arg19 m (outsAll m) c)⟩

end Cert.KernelIdeal.Run

end
-- ==== Proof.Frames.lean ====
/-
  The reference's frame: it runs host operations only and declares no semaphore.
-/
module

public import proofs.«01_k».proof.Defs
public import proofs.«01_k».proof.Proof.Gen.ReferenceIdeal
public import proofs.«01_k».proof.Proof.Gen.ReferenceIdeal.Run
public import proofs.«01_k».proof.Proof.ArgsIdeal
public import proofs.«01_k».proof.Proof.ArgsBits

@[expose] public section

noncomputable section

namespace Cert.Proof

open Idealize.ShloMosaic Idealize.SL.Sem

/-- The kernel, over words: it ends, with its arguments unchanged and every counter at zero. -/
theorem frame_kernel : Cert.quiescent_Kernel (hKernel := Cert.Kernel.Gen.facts) := fun m ρ _ =>
  (θ_run _ _ _).mono (fun r h => ⟨Cert.Kernel.Run.args m h.1, h.2⟩) (Cert.Kernel.Run.run (F := Bits) m ρ)

/-- The same over the extended reals. -/
theorem frame_kernelIdeal : Cert.quiescent_KernelIdeal (hKernelIdeal := Cert.KernelIdeal.Gen.facts) := fun m ρ _ =>
  (θ_run _ _ _).mono (fun r h => ⟨Cert.KernelIdeal.Run.args m h.1, h.2⟩) (Cert.KernelIdeal.Run.run (F := Ideal) m ρ)

/-- The reference: likewise. -/
theorem frame_referenceIdeal : Cert.quiescent_ReferenceIdeal (hReferenceIdeal := Cert.ReferenceIdeal.Gen.facts) := fun m ρ _ =>
  (θ_run _ _ _).mono (fun r h => ⟨fun c => (h c).2.2.2.2.2.2, sem_eq_zero_of_no_sems (by decide) r.2⟩)
    (Cert.ReferenceIdeal.Value.run (F := Ideal) m ρ)

end Cert.Proof

end
-- ==== Proof.Spec.lean ====
/-
  What one layer computes, written once over extended reals and plain coordinates: the normalised hidden states, the rotated queries
  and keys, the masked scores, the context, the gated feed-forward step, the prediction of the next residual, and the two gates. Both
  programs are compared with these functions; nothing here mentions either.
-/
module

public import Idealize.ShloMosaic.Lib.Pointwise

@[expose] public section

noncomputable section

namespace Cert.Spec

open Idealize.ShloMosaic

/-- The reciprocal of the root of a row's mean square. -/
def rms (x : Fin 1024 → EReal) : EReal :=
  Ideal.rsqrt (Ideal.div (∑ k, x k * x k) (Ideal.ofBits .f32 0x44800000#32) + Ideal.ofBits .f32 0x358637BD#32)

/-- A row divided by its root mean square, times the weights. -/
def norm {n : ℕ} (X : Fin n → Fin 1024 → EReal) (w : Fin 1024 → EReal) (t : Fin n) (d : Fin 1024) : EReal := X t d * rms (X t) * w d

/-- Rows against the rows of a weight matrix. -/
def lin {n a b : ℕ} (X : Fin n → Fin a → EReal) (W : Fin b → Fin a → EReal) (t : Fin n) (o : Fin b) : EReal := ∑ k, X t k * W o k

/-- `x` times its logistic. -/
def silu (x : EReal) : EReal := x * Ideal.logistic x

/-- The `i`-th frequency of the rotation. -/
def freq (i : Fin 32) : EReal :=
  Ideal.div 1 (Ideal.pow (Ideal.ofBits .f32 0x461C4000#32)
    (Ideal.div (Ideal.ofBits .f32 0x40000000#32 * ((((BitVec.ofNat 32 i.val).toInt : ℤ) : ℝ) : EReal)) (Ideal.ofBits .f32 0x42800000#32)))

/-- The angle of position `t` at frequency `i`. -/
def angle (P : Fin 2048 → BitVec 32) (t : Fin 2048) (i : Fin 32) : EReal := ((((P t).toInt : ℤ) : ℝ) : EReal) * freq i

/-- Column `j` of head `h`. -/
def col (h : Fin 16) (j : Fin 64) : Fin 1024 := ⟨h.val * 64 + j.val, by omega⟩

/-- A head's rows rotated: the first half by `cos` minus the second by `sin`, the second half by `cos` plus the first by `sin`. -/
def rot (Q : Fin 2048 → Fin 1024 → EReal) (A : Fin 2048 → Fin 32 → EReal) (h : Fin 16) (t : Fin 2048) (j : Fin 64) : EReal :=
  if hj : j.val < 32 then
    Q t (col h j) * Ideal.cos (A t ⟨j.val, hj⟩) - Q t ⟨h.val * 64 + j.val + 32, by omega⟩ * Ideal.sin (A t ⟨j.val, hj⟩)
  else
    Q t (col h j) * Ideal.cos (A t ⟨j.val - 32, by omega⟩) + Q t ⟨h.val * 64 + j.val - 32, by omega⟩ * Ideal.sin (A t ⟨j.val - 32, by omega⟩)

/-- The masked score of row `t` against row `c` in head `h`. -/
def score (Q K : Fin 16 → Fin 2048 → Fin 64 → EReal) (h : Fin 16) (t c : Fin 2048) : EReal :=
  if c.val ≤ t.val then (∑ j, Q h t j * K h c j) * Ideal.ofBits .f32 0x3E000000#32 else Ideal.ofBits .f32 0xCE6E6B28#32

/-- A row's greatest score. -/
def rowmax (s : Fin 2048 → EReal) : EReal := Finset.univ.fold max (Ideal.ofBits .f32 0xFF800000#32) s

/-- The weight a row gives to `c`, not yet divided by the row's sum. -/
def weight (s : Fin 2048 → EReal) (c : Fin 2048) : EReal := Ideal.exp (s c - rowmax s)

/-- The context, dividing once at the end. -/
def ctx (s v : Fin 2048 → EReal) : EReal := Ideal.div (∑ c, weight s c * v c) (∑ c, weight s c)

/-- The context, dividing every weight. -/
def ctxEach (s v : Fin 2048 → EReal) : EReal := ∑ c, Ideal.div (weight s c) (∑ c, weight s c) * v c

/-- The head a column belongs to. -/
def headOf (o : Fin 1024) : Fin 16 := ⟨o.val / 64, by omega⟩

/-- The scores of a layer's rows: queries and keys of the normalised states, rotated. -/
def scores (X : Fin 2048 → Fin 1024 → EReal) (P : Fin 2048 → BitVec 32) (l : Fin 1024 → EReal) (qw kw : Fin 1024 → Fin 1024 → EReal) :
    Fin 16 → Fin 2048 → Fin 2048 → EReal :=
  score (rot (lin (norm X l) qw) (angle P)) (rot (lin (norm X l) kw) (angle P))

/-- The context of every row, head by head. -/
def att (s : Fin 16 → Fin 2048 → Fin 2048 → EReal) (V : Fin 2048 → Fin 1024 → EReal) (t : Fin 2048) (o : Fin 1024) : EReal :=
  ctx (s (headOf o) t) (fun c => V c o)

/-- The states with the attention's output added. -/
def mid {n : ℕ} (X C : Fin n → Fin 1024 → EReal) (ow : Fin 1024 → Fin 1024 → EReal) (t : Fin n) (d : Fin 1024) : EReal := X t d + lin C ow t d

/-- The feed-forward step's gated activations. -/
def act {n : ℕ} (M : Fin n → Fin 1024 → EReal) (l : Fin 1024 → EReal) (gw uw : Fin 2816 → Fin 1024 → EReal) (t : Fin n) (f : Fin 2816) : EReal :=
  silu (lin (norm M l) gw t f) * lin (norm M l) uw t f

/-- The states after the feed-forward step. -/
def post {n : ℕ} (M : Fin n → Fin 1024 → EReal) (l : Fin 1024 → EReal) (gw uw : Fin 2816 → Fin 1024 → EReal) (dw : Fin 1024 → Fin 2816 → EReal)
    (t : Fin n) (d : Fin 1024) : EReal := M t d + lin (act M l gw uw) dw t d

/-- The states one row earlier, zero before the first. -/
def prev (X : Fin 2048 → Fin 1024 → EReal) (t : Fin 2048) (d : Fin 1024) : EReal :=
  if t.val = 0 then 0 else X ⟨t.val - 1, by omega⟩ d

/-- The predicted residual of a row given the states one row earlier. -/
def pred {n : ℕ} (Y : Fin n → Fin 1024 → EReal) (w1 w2 : Fin 1024 → Fin 1024 → EReal) (t : Fin n) (d : Fin 1024) : EReal :=
  lin (fun t o => silu (lin Y w1 t o)) w2 t d

/-- The prediction less the residual. -/
def diff (X Z : Fin 2048 → Fin 1024 → EReal) (w1 w2 : Fin 1024 → Fin 1024 → EReal) (t : Fin 2048) (d : Fin 1024) : EReal :=
  pred (prev Z) w1 w2 t d - (Z t d - X t d)

/-- The prediction's squared error, summed. -/
def sq (X Z : Fin 2048 → Fin 1024 → EReal) (w1 w2 : Fin 1024 → Fin 1024 → EReal) : EReal :=
  ∑ t, ∑ d, diff X Z w1 w2 t d * diff X Z w1 w2 t d

/-- The length of a row's residual. -/
def len (X Z : Fin 2048 → Fin 1024 → EReal) (t : Fin 2048) : EReal := Ideal.sqrt (∑ d, (Z t d - X t d) * (Z t d - X t d))

/-- A row's routing score. -/
def route (X : Fin 2048 → Fin 1024 → EReal) (r : Fin 1024 → EReal) (t : Fin 2048) : EReal := ∑ d, X t d * r d

/-- The mean over the rows. -/
def mean (r : Fin 2048 → EReal) : EReal := Ideal.div (∑ t, r t) (Ideal.ofBits .f32 0x45000000#32)

end Cert.Spec
-- ==== Proof.Reals.lean ====
/-
  Extended reals that are real numbers, and why a row's weights may be divided before or after they are summed: the scores of a row are
  real, so their weights are positive reals, and a sum of any extended reals may be multiplied by a positive real term by term.
-/
module

public import proofs.«01_k».proof.Proof.Spec
public import Idealize.ShloMosaic.Lib.IdealHost

@[expose] public section

noncomputable section

namespace Cert.Spec

open Idealize.ShloMosaic

/-- `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sub {x y : EReal} : IsReal x → IsReal y → IsReal (x - y) := by
  rintro ⟨a, rfl⟩ ⟨b, rfl⟩; exact ⟨a - b, (EReal.coe_sub a b).symm⟩
theorem IsReal.cos {x : EReal} : IsReal x → IsReal (Ideal.cos x) := by
  rintro ⟨a, rfl⟩; exact ⟨Real.cos a, Ideal.cos_coe a⟩
theorem IsReal.sin {x : EReal} : IsReal x → IsReal (Ideal.sin x) := by
  rintro ⟨a, rfl⟩; exact ⟨Real.sin a, Ideal.sin_coe a⟩
theorem IsReal.sum {ι : Type*} (s : Finset ι) {f : ι → EReal} (h : ∀ i, IsReal (f i)) : IsReal (∑ i ∈ s, f i) :=
  Finset.sum_induction f IsReal (fun _ _ => IsReal.add) isReal_zero fun i _ => h i

/-- A sum of reals, taken among the extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite magnitude is a real number. -/
theorem isReal_of_abs_lt_top {x : EReal} (h : max x (-x) < ⊤) : IsReal x := by
  induction x with
  | bot => simp at h
  | top => simp at h
  | coe r => exact ⟨r, rfl⟩

/-! ## The constants -/

theorem c_1024 : Ideal.ofBits .f32 0x44800000#32 = ((1024 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_eighth : Ideal.ofBits .f32 0x3E000000#32 = ((1 / 8 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_10000 : Ideal.ofBits .f32 0x461C4000#32 = ((10000 : ℝ) : EReal) := by
  simp [Ideal.ofBits, Ideal.ieee, -EReal.coe_mul]; norm_num
theorem c_eps : ∃ e : ℝ, 0 < e ∧ Ideal.ofBits .f32 0x358637BD#32 = (e : EReal) := by
  refine ⟨_, ?_, by simp [Ideal.ofBits, Ideal.ieee, -EReal.coe_mul]; rfl⟩
  positivity
theorem c_mask : IsReal (Ideal.ofBits .f32 0xCE6E6B28#32) :=
  ⟨_, by simp [Ideal.ofBits, Ideal.ieee, -EReal.coe_mul, -EReal.coe_neg]; rfl⟩
theorem c_bot : Ideal.ofBits .f32 0xFF800000#32 = ⊥ := by
  simp [Ideal.ofBits, Ideal.ieee]
theorem c_top : Ideal.ofBits .f32 0x7F800000#32 = ⊤ := by
  simp [Ideal.ofBits, Ideal.ieee]

/-- Dividing by the root of 64 is multiplying by an eighth. -/
theorem div_root (x : EReal) : Ideal.div x (Ideal.sqrt (Ideal.ofBits .f32 0x42800000#32)) = x * Ideal.ofBits .f32 0x3E000000#32 := by
  have h8 : Real.sqrt 64 = 8 := by rw [show (64 : ℝ) = 8 ^ 2 by norm_num]; exact Real.sqrt_sq (by norm_num)
  rw [c_64, c_eighth, Ideal.sqrt_coe, if_neg (by norm_num), h8, Ideal.div_coe (by norm_num)]

/-! ## The rotation's angles are real -/

theorem freq_real (i : Fin 32) : IsReal (freq i) := by
  unfold freq
  rw [c_10000, c_two, c_64, ← EReal.coe_mul, Ideal.div_coe (by norm_num), ← EReal.coe_mul]
  show IsReal (Ideal.div 1 (((10000 : ℝ) ^ (_ : ℝ) : ℝ) : EReal))
  rw [Ideal.div_coe (Real.rpow_pos_of_pos (by norm_num) _).ne']
  exact isReal_one.mul (isReal_coe _)
theorem angle_real (P : Fin 2048 → BitVec 32) (t : Fin 2048) (i : Fin 32) : IsReal (angle P t i) :=
  (isReal_coe _).mul (freq_real i)

/-! ## A normalised row is real, whatever the row -/

theorem sq_nonneg' (x : EReal) : 0 ≤ x * x := by
  rcases le_total 0 x with h | h
  · exact EReal.mul_nonneg h h
  · exact EReal.mul_nonneg_iff.mpr (Or.inr ⟨h, h⟩)

/-- A row divided by its root mean square is real: an infinite entry makes the mean square infinite and its reciprocal root zero. -/
theorem mul_rms_real (x : Fin 1024 → EReal) (d : Fin 1024) : IsReal (x d * rms x) := by
  obtain ⟨e, he, hE⟩ := c_eps
  unfold rms
  rw [c_1024, hE, Ideal.div_coe (by norm_num)]
  by_cases h : ∃ k, x k = ⊤ ∨ x k = ⊥
  · obtain ⟨k, hk⟩ := h
    have hkk : x k * x k = ⊤ := by rcases hk with hk | hk <;> rw [hk] <;> simp
    have hs : ∑ k, x k * x k = ⊤ := by
      apply le_antisymm le_top
      rw [← hkk]
      exact Finset.single_le_sum (f := fun k => x k * x k) (fun i _ => sq_nonneg' _) (Finset.mem_univ k)
    rw [hs, EReal.top_mul_coe_of_pos (by norm_num), EReal.top_add_coe, Ideal.rsqrt_top, mul_zero]
    exact isReal_zero
  · push Not at h
    have hr : ∀ k, ∃ r : ℝ, x k = (r : EReal) := fun k => by
      have := h k
      induction hx : x k with
      | bot => exact absurd hx this.2
      | top => exact absurd hx this.1
      | coe r => exact ⟨r, rfl⟩
    choose r hr using hr
    have hs : ∑ k, x k * x k = ((∑ k, r k * r k : ℝ) : EReal) := by
      rw [coe_sum]
      exact Finset.sum_congr rfl fun k _ => by rw [hr k, EReal.coe_mul]
    have hn : 0 ≤ ∑ k, r k * r k := Finset.sum_nonneg fun k _ => mul_self_nonneg _
    have hp : 0 < (∑ k, r k * r k) * (1 / 1024) + e := by positivity
    rw [hs, ← EReal.coe_mul, ← EReal.coe_add, Ideal.rsqrt_coe, if_neg (not_lt.mpr hp.le), if_neg hp.ne', hr d, ← EReal.coe_mul]
    exact isReal_coe _
theorem norm_real {n : ℕ} (X : Fin n → Fin 1024 → EReal) {w : Fin 1024 → EReal} (hw : ∀ d, IsReal (w d)) (t : Fin n) (d : Fin 1024) :
    IsReal (norm X w t d) := (mul_rms_real _ d).mul (hw d)
theorem lin_real {n a b : ℕ} {X : Fin n → Fin a → EReal} {W : Fin b → Fin a → EReal} (hX : ∀ t k, IsReal (X t k)) (hW : ∀ o k, IsReal (W o k))
    (t : Fin n) (o : Fin b) : IsReal (lin X W t o) := IsReal.sum _ fun k => (hX t k).mul (hW o k)
theorem rot_real {Q : Fin 2048 → Fin 1024 → EReal} {A : Fin 2048 → Fin 32 → EReal} (hQ : ∀ t o, IsReal (Q t o)) (hA : ∀ t i, IsReal (A t i))
    (h : Fin 16) (t : Fin 2048) (j : Fin 64) : IsReal (rot Q A h t j) := by
  unfold rot; split
  · exact ((hQ _ _).mul (hA _ _).cos).sub ((hQ _ _).mul (hA _ _).sin)
  · exact ((hQ _ _).mul (hA _ _).cos).add ((hQ _ _).mul (hA _ _).sin)
theorem score_real {Q K : Fin 16 → Fin 2048 → Fin 64 → EReal} (hQ : ∀ h t j, IsReal (Q h t j)) (hK : ∀ h t j, IsReal (K h t j))
    (h : Fin 16) (t c : Fin 2048) : IsReal (score Q K h t c) := by
  unfold score; split
  · exact (IsReal.sum _ fun j => (hQ _ _ _).mul (hK _ _ _)).mul (by rw [c_eighth]; exact isReal_coe _)
  · exact c_mask
/-- The scores are real when the first norm's weights and the query and key weights are. -/
theorem scores_real (X : Fin 2048 → Fin 1024 → EReal) (P : Fin 2048 → BitVec 32) {l : Fin 1024 → EReal} {qw kw : Fin 1024 → Fin 1024 → EReal}
    (hl : ∀ d, IsReal (l d)) (hq : ∀ o k, IsReal (qw o k)) (hk : ∀ o k, IsReal (kw o k)) (h : Fin 16) (t c : Fin 2048) :
    IsReal (scores X P l qw kw h t c) :=
  score_real (rot_real (lin_real (norm_real X hl) hq) (angle_real P)) (rot_real (lin_real (norm_real X hl) hk) (angle_real P)) h t c

/-! ## Dividing the weights one by one or all at once -/

theorem rowmax_real {s : Fin 2048 → EReal} (hs : ∀ c, IsReal (s c)) : IsReal (rowmax s) := by
  unfold rowmax
  rw [c_bot]
  choose r hr using hs
  have hlt : Finset.univ.fold max (⊥ : EReal) s < ⊤ := (Finset.fold_max_lt _).mpr ⟨bot_lt_top, fun c _ => by rw [hr c]; exact EReal.coe_lt_top _⟩
  have hgt : (⊥ : EReal) < Finset.univ.fold max (⊥ : EReal) s :=
    (Finset.lt_fold_max _).mpr (Or.inr ⟨0, Finset.mem_univ _, by rw [hr 0]; exact EReal.bot_lt_coe _⟩)
  exact ⟨_, (EReal.coe_toReal hlt.ne hgt.ne').symm⟩

/-- A weight is a positive real. -/
theorem weight_pos {s : Fin 2048 → EReal} (hs : ∀ c, IsReal (s c)) (c : Fin 2048) : ∃ p : ℝ, 0 < p ∧ weight s c = (p : EReal) := by
  obtain ⟨a, ha⟩ := (hs c).sub (rowmax_real hs)
  exact ⟨Real.exp a, Real.exp_pos a, by unfold weight; rw [ha]; exact Ideal.exp_coe a⟩

/-- A sum of extended reals times a nonnegative real, term by term. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- With real scores the two contexts are one. -/
theorem ctxEach_eq {s : Fin 2048 → EReal} (hs : ∀ c, IsReal (s c)) (v : Fin 2048 → EReal) : ctxEach s v = ctx s v := by
  choose p hp hw using weight_pos hs
  have hL : ∑ c, weight s c = ((∑ c, p c : ℝ) : EReal) := by
    rw [coe_sum]; exact Finset.sum_congr rfl fun c _ => hw c
  have h0 : 0 < ∑ c, p c := Finset.sum_pos (fun c _ => hp c) ⟨(0 : Fin 2048), Finset.mem_univ _⟩
  unfold ctxEach ctx
  rw [hL, Ideal.div_coe h0.ne', sum_mul_real _ _ (by positivity)]
  exact Finset.sum_congr rfl fun c _ => by rw [Ideal.div_coe h0.ne', mul_right_comm]

/-- A row's greatest score is at least the value the search starts from. -/
theorem max_rowmax (s : Fin 2048 → EReal) : max (Ideal.ofBits .f32 0xFF800000#32) (rowmax s) = rowmax s :=
  max_eq_right (by rw [c_bot]; exact bot_le)

end Cert.Spec
-- ==== Proof.Plain.lean ====
/-
  What the precondition says: the biases are zero and the first normalisation's, the queries' and the keys' weights are real.
-/
module

public import proofs.«01_k».proof.Pre_plain_inputs
public import proofs.«01_k».proof.Proof.Reals
public import Idealize.ShloMosaic.Lib.ReduceAll
public import Idealize.ShloMosaic.Lib.Pointwise

@[expose] public section

set_option maxRecDepth 16384

noncomputable section

namespace Cert.Pre_plain_inputs

open Idealize.ShloMosaic Cert.Spec

/-- The shapes the precondition's operations take fit. -/
instance facts : Facts where
  bcast_S_S1024 := by decide
  reducesTo_S1024_S_d0 := by decide
  h_S_ := by decide
  bcast_S_S1 := by decide
  reducesTo_S1_S_d0 := by decide
  bcast_S_S1024x1024 := by decide
  reducesTo_S1024x1024_S_d0_1 := by decide

instance oneIdx : Subsingleton S_.Idx := ⟨fun a b => funext fun i => i.elim0⟩

/-- An array that compares equal to zero everywhere is zero everywhere. -/
theorem all_zero {s : Shape} {axes : List (Fin s.rank)} (hb : S_.BroadcastsInDim s (![] : Fin 0 → Fin s.rank)) (hr : s.ReducesTo axes S_) (hu : 0 < S_.numel)
    (a : FVec Ideal s .f32) (j : S_.Idx)
    (e : Host.reduce IntOp.andi (cmpf .oeq a (broadcastInDim s ![] hb (constant S_ .f32 0x00000000#32))) (constantI S_ 1 1#1) hr hu j = 1#1) (i : s.Idx) :
    a i = (0 : EReal) := by
  have h := Host.reduce_andi_all _ _ hr hu j e i
  have h' : Ideal.cmp .oeq (a i) (Ideal.ofBits .f32 0x00000000#32) = 1#1 := h
  rw [Ideal.ofBits_zero_f32] at h'
  by_contra hn
  simp [Ideal.cmp, hn] at h'

/-- An array whose absolute values compare below the infinity everywhere is real everywhere. -/
theorem all_real {s : Shape} {axes : List (Fin s.rank)} (hb : S_.BroadcastsInDim s (![] : Fin 0 → Fin s.rank)) (hr : s.ReducesTo axes S_) (hu : 0 < S_.numel)
    (a : FVec Ideal s .f32) (j : S_.Idx)
    (e : Host.reduce IntOp.andi (cmpf .olt (Host.absf a) (broadcastInDim s ![] hb (constant S_ .f32 0x7F800000#32))) (constantI S_ 1 1#1) hr hu j = 1#1) (i : s.Idx) :
    IsReal (a i) := by
  have h := Host.reduce_andi_all _ _ hr hu j e i
  have h' : Ideal.cmp .olt (max (a i : EReal) (-(a i : EReal))) (Ideal.ofBits .f32 0x7F800000#32) = 1#1 := h
  rw [c_top] at h'
  refine isReal_of_abs_lt_top ?_
  by_contra hn
  dsimp only [Ideal.cmp] at h'
  rw [decide_eq_false hn] at h'
  exact absurd h' (by decide)

/-- What the precondition says of the arguments. -/
theorem plain {a0 : FVec Ideal S1x2048x1024 .f32} {a1 : IVec S1x2048 32} {a2 : FVec Ideal S1024 .f32} {a3 : FVec Ideal S1024x1024 .f32} {a4 : FVec Ideal S1024 .f32}
    {a5 : FVec Ideal S1024x1024 .f32} {a6 : FVec Ideal S1024 .f32} {a7 : FVec Ideal S1024x1024 .f32} {a8 : FVec Ideal S1024 .f32} {a9 : FVec Ideal S1024x1024 .f32}
    {a10 : FVec Ideal S1024 .f32} {a11 a12 : FVec Ideal S2816x1024 .f32} {a13 : FVec Ideal S1024x2816 .f32} {a14 : FVec Ideal S1024x1024 .f32} {a15 : FVec Ideal S1024 .f32}
    {a16 : FVec Ideal S1024x1024 .f32} {a17 : FVec Ideal S1024 .f32} {a18 : FVec Ideal S1x1024 .f32} {a19 : FVec Ideal S1 .f32}
    (e : fn (F := Ideal) a0 a1 a2 a3 a4 a5 a6 a7 a8 a9 a10 a11 a12 a13 a14 a15 a16 a17 a18 a19 = fun _ => 1#1) :
    ((∀ i, a4 i = (0 : EReal)) ∧ (∀ i, a6 i = (0 : EReal)) ∧ (∀ i, a8 i = (0 : EReal)) ∧ (∀ i, a15 i = (0 : EReal)) ∧ (∀ i, a17 i = (0 : EReal)) ∧ (∀ i, a19 i = (0 : EReal)))
      ∧ (∀ i, IsReal (a2 i)) ∧ (∀ i, IsReal (a3 i)) ∧ (∀ i, IsReal (a5 i)) := by
  have h := congrFun e (fun i => i.elim0)
  dsimp only [fn, fn_part1, fn_part2, andi] at h
  obtain ⟨hz, hf⟩ := IntOp.andi_eq_one.1 h
  obtain ⟨hz, h19⟩ := IntOp.andi_eq_one.1 hz
  obtain ⟨hz, h17⟩ := IntOp.andi_eq_one.1 hz
  obtain ⟨hz, h15⟩ := IntOp.andi_eq_one.1 hz
  obtain ⟨hz, h8⟩ := IntOp.andi_eq_one.1 hz
  obtain ⟨h4, h6⟩ := IntOp.andi_eq_one.1 hz
  obtain ⟨hf, h5⟩ := IntOp.andi_eq_one.1 hf
  obtain ⟨h2, h3⟩ := IntOp.andi_eq_one.1 hf
  exact ⟨⟨all_zero _ _ _ a4 _ h4, all_zero _ _ _ a6 _ h6, all_zero _ _ _ a8 _ h8, all_zero _ _ _ a15 _ h15, all_zero _ _ _ a17 _ h17, all_zero _ _ _ a19 _ h19⟩,
    all_real _ _ _ a2 _ h2, all_real _ _ _ a3 _ h3, all_real _ _ _ a5 _ h5⟩

end Cert.Pre_plain_inputs

end
-- ==== Proof.Refs.lean ====
/-
  What the reference computes, stage by stage, over extended reals: each of its named arrays at one index is the plain function of
  the arguments that `Spec` names. The stages that add a bias assume it zero.
-/
module

public import proofs.«01_k».proof.Proof.Reals
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Refs

open Cert.ReferenceIdeal Cert.ReferenceIdeal.Gen Idealize.ShloMosaic Idealize.ShloMosaic.TcCoe Idealize.SL.Sem Idealize.ShloMosaic.StableHlo
open Cert.Spec hiding norm
open Cert.ReferenceIdeal.Value Cert.ReferenceIdeal.Gen

variable (W : Valuation τ sig (Elt Ideal))

/-- The hidden states. -/
def x (t : Fin 2048) (d : Fin 1024) : EReal := W (Proc.devRef .tc main_arg0) (ix3 0 t d)
/-- The positions. -/
def pos (t : Fin 2048) : BitVec 32 := W (Proc.devRef .tc main_arg1) (ix2 0 t)
/-- The first normalisation's weights. -/
def l1 (d : Fin 1024) : EReal := W (Proc.devRef .tc main_arg2) (ix1 d)
/-- The query weights. -/
def qw (o k : Fin 1024) : EReal := W (Proc.devRef .tc main_arg3) (ix2 o k)
/-- The key weights. -/
def kw (o k : Fin 1024) : EReal := W (Proc.devRef .tc main_arg5) (ix2 o k)
/-- The value weights. -/
def vw (o k : Fin 1024) : EReal := W (Proc.devRef .tc main_arg7) (ix2 o k)
/-- The output weights. -/
def ow (o k : Fin 1024) : EReal := W (Proc.devRef .tc main_arg9) (ix2 o k)
/-- The second normalisation's weights. -/
def l2 (d : Fin 1024) : EReal := W (Proc.devRef .tc main_arg10) (ix1 d)
/-- The gate weights. -/
def gw (o : Fin 2816) (k : Fin 1024) : EReal := W (Proc.devRef .tc main_arg11) (ix2 o k)
/-- The up weights. -/
def uw (o : Fin 2816) (k : Fin 1024) : EReal := W (Proc.devRef .tc main_arg12) (ix2 o k)
/-- The down weights. -/
def dw (o : Fin 1024) (k : Fin 2816) : EReal := W (Proc.devRef .tc main_arg13) (ix2 o k)
/-- The prediction's first weights. -/
def w1 (o k : Fin 1024) : EReal := W (Proc.devRef .tc main_arg14) (ix2 o k)
/-- The prediction's second weights. -/
def w2 (o k : Fin 1024) : EReal := W (Proc.devRef .tc main_arg16) (ix2 o k)
/-- The routing weights. -/
def cr (k : Fin 1024) : EReal := W (Proc.devRef .tc main_arg18) (ix2 0 k)

/-- The hidden states normalised. -/
theorem normed (t : Fin 2048) (d : Fin 1024) : res_main_v12 W (ix3 0 t d) = Spec.norm (x W) (l1 W) t d := by
  pointwise [res_main_v12, Spec.norm, rms, x, l1]

/-- The queries, head by head. -/
theorem queries (hb : ∀ o, W (Proc.devRef .tc main_arg4) (ix1 o) = (0 : EReal)) (h : Fin 16) (t : Fin 2048) (j : Fin 64) :
    res_main_v19 W (ix4 0 h t j) = lin (Spec.norm (x W) (l1 W)) (qw W) t (col h j) := by
  pointwise [res_main_v19, normed W, lin, qw, col, hb]

/-- The keys, head by head. -/
theorem keys (hb : ∀ o, W (Proc.devRef .tc main_arg6) (ix1 o) = (0 : EReal)) (h : Fin 16) (t : Fin 2048) (j : Fin 64) :
    res_main_v26 W (ix4 0 h t j) = lin (Spec.norm (x W) (l1 W)) (kw W) t (col h j) := by
  pointwise [res_main_v26, normed W, lin, kw, col, hb]

/-- The angles. -/
theorem angles (t : Fin 2048) (i : Fin 32) : res_main_v50 W (ix3 0 t i) = angle (pos W) t i := by
  pointwise [res_main_v50, angle, freq, pos]
  rfl

/-- The angles twice over. -/
theorem angles2 (t : Fin 2048) (j : Fin 64) :
    res_main_v51 W (ix3 0 t j) = if hj : j.val < 32 then angle (pos W) t ⟨j.val, hj⟩ else angle (pos W) t ⟨j.val - 32, by omega⟩ := by
  pointwise [res_main_v51, angles W]

/-- The cosines. -/
theorem cosines (t : Fin 2048) (j : Fin 64) : res_main_v53 W (ix4 0 0 t j)
    = if hj : j.val < 32 then Ideal.cos (angle (pos W) t ⟨j.val, hj⟩) else Ideal.cos (angle (pos W) t ⟨j.val - 32, by omega⟩) := by
  pointwise [res_main_v53, angles2 W]
  split <;> rfl

/-- The sines. -/
theorem sines (t : Fin 2048) (j : Fin 64) : res_main_v55 W (ix4 0 0 t j)
    = if hj : j.val < 32 then Ideal.sin (angle (pos W) t ⟨j.val, hj⟩) else Ideal.sin (angle (pos W) t ⟨j.val - 32, by omega⟩) := by
  pointwise [res_main_v55, angles2 W]
  split <;> rfl

/-- A pick by the order of two row numbers. -/
theorem pick_ge {a b : ℕ} (ha : a < 2 ^ 31) (hb : b < 2 ^ 31) (p q : BitVec 1) :
    Scalar.select (IntOp.cmpi CmpIPredicate.sge (IntOp.addi (BitVec.ofNat 32 a) 0#32) (BitVec.ofNat 32 b)) p q = if b ≤ a then p else q := by
  rw [show IntOp.addi (BitVec.ofNat 32 a) 0#32 = BitVec.ofNat 32 a from BitVec.add_zero _, WordCmp.cmpi_sge_ofNat ha hb]
  by_cases h : b ≤ a
  · rw [decide_eq_true h, if_pos h]; rfl
  · rw [decide_eq_false h, if_neg h]; rfl

/-- A pick by a picked bit. -/
theorem pick_one {p : Prop} [Decidable p] (x y : EReal) : Scalar.select (if p then 1#1 else 0#1) x y = if p then x else y := by
  split <;> rfl

/-- The first half of a rotated head. -/
theorem rot_lo (Q : Fin 2048 → Fin 1024 → EReal) (A : Fin 2048 → Fin 32 → EReal) (h : Fin 16) (t : Fin 2048) (j : Fin 32) :
    rot Q A h t ⟨j.val, by omega⟩ = Q t (col h ⟨j.val, by omega⟩) * Ideal.cos (A t j) + -Q t (col h ⟨32 + j.val, by omega⟩) * Ideal.sin (A t j) := by
  unfold rot
  rw [dif_pos j.isLt, sub_eq_add_neg, EReal.neg_mul]
  have : (⟨h.val * 64 + j.val + 32, by omega⟩ : Fin 1024) = col h ⟨32 + j.val, by omega⟩ := Fin.ext (by show h.val * 64 + j.val + 32 = h.val * 64 + (32 + j.val); omega)
  rw [this]

/-- The second half of a rotated head. -/
theorem rot_hi (Q : Fin 2048 → Fin 1024 → EReal) (A : Fin 2048 → Fin 32 → EReal) (h : Fin 16) (t : Fin 2048) (j : Fin 32) :
    rot Q A h t ⟨32 + j.val, by omega⟩ = Q t (col h ⟨32 + j.val, by omega⟩) * Ideal.cos (A t j) + Q t (col h ⟨j.val, by omega⟩) * Ideal.sin (A t j) := by
  unfold rot
  rw [dif_neg (by show ¬32 + j.val < 32; omega)]
  have e1 : (⟨h.val * 64 + (32 + j.val) - 32, by omega⟩ : Fin 1024) = col h ⟨j.val, by omega⟩ := Fin.ext (by show h.val * 64 + (32 + j.val) - 32 = h.val * 64 + j.val; omega)
  have e2 : (⟨32 + j.val - 32, by omega⟩ : Fin 32) = j := Fin.ext (by show 32 + j.val - 32 = j.val; omega)
  rw [e1, e2]

/-- A layer's scores. -/
abbrev sc : Fin 16 → Fin 2048 → Fin 2048 → EReal := scores (x W) (pos W) (l1 W) (qw W) (kw W)

/-- The masked scores. -/
theorem scored (h4 : ∀ o, W (Proc.devRef .tc main_arg4) (ix1 o) = (0 : EReal)) (h6 : ∀ o, W (Proc.devRef .tc main_arg6) (ix1 o) = (0 : EReal))
    (h : Fin 16) (t c : Fin 2048) : res_main_v85 W (ix4 0 h t c) = sc W h t c := by
  pointwise [res_main_v85, queries W h4, keys W h6, cosines W, sines W, scores, score]
  rw [pick_ge (by omega) (by omega), pick_one, div_root]
  by_cases hc : c.val ≤ t.val
  · rw [if_pos hc, if_pos hc, Fin.sum_univ_two_halves (N := 64) 32 32 rfl]
    refine congrArg (· * _) (congrArg₂ (· + ·) (Finset.sum_congr rfl fun j _ => ?_) (Finset.sum_congr rfl fun j _ => ?_))
    · rw [rot_lo _ _ h t j, rot_lo _ _ h c j]
    · rw [rot_hi _ _ h t j, rot_hi _ _ h c j]
  · rw [if_neg hc, if_neg hc]

end Cert.ReferenceIdeal.Refs
-- ==== Proof.RefsTail.lean ====
/-
  What the reference computes from its scores on: the attention, the feed-forward step, the prediction and the routing.
-/
module

public import proofs.«01_k».proof.Proof.Refs
public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Refs

open Cert.ReferenceIdeal Cert.ReferenceIdeal.Gen Idealize.ShloMosaic Idealize.ShloMosaic.TcCoe Idealize.SL.Sem Idealize.ShloMosaic.StableHlo
open Cert.Spec hiding norm
open Cert.ReferenceIdeal.Value Cert.ReferenceIdeal.Gen

variable (W : Valuation τ sig (Elt Ideal))

/-- A greatest-of reduction over the last of four axes. -/
theorem maxed {n0 n1 n2 n3 : ℕ} {u : Shape} (v : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf : Ideal .f32 → Ideal .f32 → Ideal .f32) v init h hu (ix3 a b c)
      = Finset.univ.fold max (init (Shape.Idx.first hu)) (fun k => v (ix4 a b c k)) := by
  rw [Host.reduce_eq_fold, h.fold_fiber_r4_a3]
  rfl

/-- The weights not yet divided. -/
theorem weighted (h4 : ∀ o, W (Proc.devRef .tc main_arg4) (ix1 o) = (0 : EReal)) (h6 : ∀ o, W (Proc.devRef .tc main_arg6) (ix1 o) = (0 : EReal))
    (h : Fin 16) (t c : Fin 2048) : res_main_v92 W (ix4 0 h t c) = weight (sc W h t) c := by
  have e : ∀ c, res_main_v85 W (ix4 0 h t c) = sc W h t c := scored W h4 h6 h t
  unfold res_main_v92
  clean_types
  obtain ⟨v, hv⟩ : ∃ v : FVec Ideal S1x16x2048x2048 .f32, res_main_v85 W = v := ⟨_, rfl⟩
  rw [hv] at e ⊢
  have hm := maxed v (constant S_ .f32 0xFF800000#32) reducesTo_S1x16x2048x2048_S1x16x2048_d3 h_S_ 0 h t
  simp only [e] at hm
  obtain ⟨M, hM⟩ : ∃ M : FVec Ideal S1x16x2048 .f32, Host.reduce (FloatOps.maximumf : Ideal .f32 → Ideal .f32 → Ideal .f32) v (constant S_ .f32 0xFF800000#32) reducesTo_S1x16x2048x2048_S1x16x2048_d3 h_S_ = M := ⟨_, rfl⟩
  rw [hM] at hm ⊢
  pointwise [weight, e, hm]
  exact congrArg Ideal.exp (congrArg _ (max_rowmax (sc W h t)))

/-- The states with the attention's output added. -/
abbrev md : Fin 2048 → Fin 1024 → EReal := mid (x W) (att (sc W) (lin (Spec.norm (x W) (l1 W)) (vw W))) (ow W)

theorem attended (h4 : ∀ o, W (Proc.devRef .tc main_arg4) (ix1 o) = (0 : EReal)) (h6 : ∀ o, W (Proc.devRef .tc main_arg6) (ix1 o) = (0 : EReal))
    (h8 : ∀ o, W (Proc.devRef .tc main_arg8) (ix1 o) = (0 : EReal)) (hs : ∀ h t c, IsReal (sc W h t c))
    (t : Fin 2048) (d : Fin 1024) : res_main_v105 W (ix3 0 t d) = md W t d := by
  have e : ∀ (h : Fin 16) (o : Fin 1024), ctx (sc W h t) (fun c => lin (Spec.norm (x W) (l1 W)) (vw W) c o)
      = ctxEach (sc W h t) (fun c => lin (Spec.norm (x W) (l1 W)) (vw W) c o) := fun h o => (ctxEach_eq (hs h t) _).symm
  pointwise [res_main_v105, weighted W h4 h6, normed W, mid, att, e, h8, ow]
  exact congrArg₂ (· + ·) rfl (Finset.sum_congr rfl fun k _ => congrArg₂ (· * ·) (e (headOf k) k).symm rfl)

/-- The states with the attention's output added, normalised. -/
theorem normed2 (hm : ∀ t d, res_main_v105 W (ix3 0 t d) = md W t d) (t : Fin 2048) (d : Fin 1024) :
    res_main_v118 W (ix3 0 t d) = Spec.norm (md W) (l2 W) t d := by
  pointwise [res_main_v118, hm, Spec.norm, rms, l2]

/-- The feed-forward step's gate. -/
theorem gate (hm : ∀ t d, res_main_v105 W (ix3 0 t d) = md W t d) (t : Fin 2048) (f : Fin 2816) :
    res_main_v120 W (ix3 0 t f) = lin (Spec.norm (md W) (l2 W)) (gw W) t f := by
  pointwise [res_main_v120, normed2 W hm, lin, gw]

/-- The layer's states. -/
abbrev ps : Fin 2048 → Fin 1024 → EReal := post (md W) (l2 W) (gw W) (uw W) (dw W)

theorem posted (hm : ∀ t d, res_main_v105 W (ix3 0 t d) = md W t d) (t : Fin 2048) (d : Fin 1024) : res_main_v127 W (ix3 0 t d) = ps W t d := by
  pointwise [res_main_v127, gate W hm, normed2 W hm, hm]
  rfl

/-- The residual. -/
theorem residual (hp : ∀ t d, res_main_v127 W (ix3 0 t d) = ps W t d) (t : Fin 2048) (d : Fin 1024) : res_main_v128 W (ix3 0 t d) = ps W t d - x W t d := by
  pointwise [res_main_v128, hp, x]

/-- The prediction before its activation. -/
theorem inner (hp : ∀ t d, res_main_v127 W (ix3 0 t d) = ps W t d) (h15 : ∀ o, W (Proc.devRef .tc main_arg15) (ix1 o) = (0 : EReal))
    (t : Fin 2048) (o : Fin 1024) : res_main_v136 W (ix3 0 t o) = lin (prev (ps W)) (w1 W) t o := by
  pointwise [res_main_v136, hp, h15, lin, prev, w1]
  simp only [Nat.lt_one_iff]
  rfl

/-- The prediction's error. -/
theorem missed (hp : ∀ t d, res_main_v127 W (ix3 0 t d) = ps W t d) (h15 : ∀ o, W (Proc.devRef .tc main_arg15) (ix1 o) = (0 : EReal))
    (h17 : ∀ o, W (Proc.devRef .tc main_arg17) (ix1 o) = (0 : EReal)) (t : Fin 2048) (d : Fin 1024) :
    res_main_v143 W (ix3 0 t d) = diff (x W) (ps W) (w1 W) (w2 W) t d := by
  pointwise [res_main_v143, inner W hp h15, residual W hp, h17, diff, pred, lin, silu, w2, Ideal.logistic]

/-- The residual's length. -/
theorem length (hp : ∀ t d, res_main_v127 W (ix3 0 t d) = ps W t d) (t : Fin 2048) : res_main_v147 W (ix2 0 t) = len (x W) (ps W) t := by
  pointwise [res_main_v147, residual W hp, len]

/-- The routing scores. -/
theorem routed (h19 : W (Proc.devRef .tc main_arg19) (ix1 0) = (0 : EReal)) (t : Fin 2048) : res_main_v168 W (ix2 0 t) = route (x W) (cr W) t := by
  pointwise [res_main_v168, h19, route, x, cr]

end Cert.ReferenceIdeal.Refs
-- ==== Proof.RefsOut.lean ====
/-
  What the reference returns, each result at one index, in the plain functions of `Spec`.
-/
module

public import proofs.«01_k».proof.Proof.RefsTail
public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Refs

open Cert.ReferenceIdeal Cert.ReferenceIdeal.Gen Idealize.ShloMosaic Idealize.ShloMosaic.TcCoe Idealize.SL.Sem Idealize.ShloMosaic.StableHlo
open Cert.Spec hiding norm
open Cert.ReferenceIdeal.Value Cert.ReferenceIdeal.Gen

variable (W : Valuation τ sig (Elt Ideal))

/-- The residual's length, by row. -/
abbrev rl : Fin 2048 → EReal := len (x W) (ps W)
/-- The routing score, by row. -/
abbrev rs : Fin 2048 → EReal := route (x W) (cr W)

/-- The prediction's loss. -/
theorem out_loss (hq : ∀ t d, res_main_v143 W (ix3 0 t d) = diff (x W) (ps W) (w1 W) (w2 W) t d) (j : S_.Idx) :
    Host.divf (Host.reduceAdd (mulf (res_main_v143 W) (res_main_v143 W)) (constant S_ .f32 0x00000000#32) reducesTo_S1x2048x1024_S_d0_1_2 h_S_) (constant S_ .f32 0x4A000000#32) j
      = Ideal.div (sq (x W) (ps W) (w1 W) (w2 W)) (Ideal.ofBits .f32 0x4A000000#32) := by
  clean_types
  obtain ⟨v, hv⟩ : ∃ v : FVec Ideal S1x2048x1024 .f32, res_main_v143 W = v := ⟨_, rfl⟩
  rw [hv] at hq ⊢
  pointwise [Spec.sq, hq]
  simp only [Fin.sum_univ_one, hq]

/-- The mean length. -/
theorem meaned (hl : ∀ t, res_main_v147 W (ix2 0 t) = rl W t) (j : S_.Idx) :
    Host.divf (Host.reduceAdd (res_main_v147 W) (constant S_ .f32 0x00000000#32) reducesTo_S1x2048_S_d0_1 h_S_) (constant S_ .f32 0x45000000#32) j
      = mean (rl W) := by
  clean_types
  obtain ⟨v, hv⟩ : ∃ v : FVec Ideal S1x2048 .f32, res_main_v147 W = v := ⟨_, rfl⟩
  rw [hv] at hl ⊢
  pointwise [mean, hl]
  simp only [Fin.sum_univ_one, hl]

/-- The continuous gate. -/
theorem out_gate (hl : ∀ t, res_main_v147 W (ix2 0 t) = rl W t) (t : Fin 2048) :
    Host.divf (broadcastInDim S1x2048 ![] bcast_S_S1x2048 (constant S_ .f32 0x3F800000#32)) (addf (broadcastInDim S1x2048 ![] bcast_S_S1x2048 (constant S_ .f32 0x3F800000#32)) (Host.exp (Host.negf (subf (res_main_v147 W) (broadcastInDim S1x2048 ![] bcast_S_S1x2048 (Host.divf (Host.reduceAdd (res_main_v147 W) (constant S_ .f32 0x00000000#32) reducesTo_S1x2048_S_d0_1 h_S_) (constant S_ .f32 0x45000000#32))))))) (ix2 0 t)
      = Ideal.logistic (rl W t - mean (rl W)) := by
  have hm := meaned W hl
  obtain ⟨M, hM⟩ : ∃ M : FVec Ideal S_ .f32, Host.divf (Host.reduceAdd (res_main_v147 W) (constant S_ .f32 0x00000000#32) reducesTo_S1x2048_S_d0_1 h_S_) (constant S_ .f32 0x45000000#32) = M := ⟨_, rfl⟩
  rw [hM] at hm ⊢
  pointwise [hl, hm, Ideal.logistic]

/-- The binary targets. -/
theorem out_target (hl : ∀ t, res_main_v147 W (ix2 0 t) = rl W t) (t : Fin 2048) :
    uitofp (F := Ideal) .f32 (cmpf .ogt (res_main_v147 W) (broadcastInDim S1x2048 ![] bcast_S_S1x2048 (Host.divf (Host.reduceAdd (res_main_v147 W) (constant S_ .f32 0x00000000#32) reducesTo_S1x2048_S_d0_1 h_S_) (constant S_ .f32 0x45000000#32)))) (ix2 0 t)
      = if mean (rl W) < rl W t then 1 else 0 := by
  have hm := meaned W hl
  obtain ⟨M, hM⟩ : ∃ M : FVec Ideal S_ .f32, Host.divf (Host.reduceAdd (res_main_v147 W) (constant S_ .f32 0x00000000#32) reducesTo_S1x2048_S_d0_1 h_S_) (constant S_ .f32 0x45000000#32) = M := ⟨_, rfl⟩
  rw [hM] at hm ⊢
  pointwise [hl, hm]
  show ((((BitVec.ofBool (decide (mean (rl W) < rl W t)) : BitVec 1).toNat : ℝ)) : EReal) = _
  split <;> rename_i h
  · rw [decide_eq_true h]; exact (by norm_num : (((1 : ℕ) : ℝ) : EReal) = 1)
  · rw [decide_eq_false h]; exact (by norm_num : (((0 : ℕ) : ℝ) : EReal) = 0)

/-- The routing probabilities. -/
theorem out_prob (hr : ∀ t, res_main_v168 W (ix2 0 t) = rs W t) (t : Fin 2048) :
    Host.divf (broadcastInDim S1x2048 ![] bcast_S_S1x2048 (constant S_ .f32 0x3F800000#32)) (addf (broadcastInDim S1x2048 ![] bcast_S_S1x2048 (constant S_ .f32 0x3F800000#32)) (Host.exp (Host.negf (res_main_v168 W)))) (ix2 0 t)
      = Ideal.logistic (rs W t) := by
  pointwise [hr, Ideal.logistic]

/-- The routing's loss. -/
theorem out_causal (hl : ∀ t, res_main_v147 W (ix2 0 t) = rl W t) (hr : ∀ t, res_main_v168 W (ix2 0 t) = rs W t) (j : S_.Idx) :
    Host.divf (Host.reduceAdd (addf (subf (maximumf (res_main_v168 W) (broadcastInDim S1x2048 ![] bcast_S_S1x2048 (constant S_ .f32 0x00000000#32))) (mulf (res_main_v168 W) (uitofp .f32 (cmpf .ogt (res_main_v147 W) (broadcastInDim S1x2048 ![] bcast_S_S1x2048 (Host.divf (Host.reduceAdd (res_main_v147 W) (constant S_ .f32 0x00000000#32) reducesTo_S1x2048_S_d0_1 h_S_) (constant S_ .f32 0x45000000#32))))))) (Host.log1p (Host.exp (Host.negf (Host.absf (res_main_v168 W)))))) (constant S_ .f32 0x00000000#32) reducesTo_S1x2048_S_d0_1 h_S_) (constant S_ .f32 0x45000000#32) j
      = Ideal.div (∑ t, (max (rs W t) 0 - rs W t * (if mean (rl W) < rl W t then 1 else 0) + Ideal.log1p (Ideal.exp (0 - (FloatOps.absf (rs W t : Ideal .f32) : Ideal .f32))))) (Ideal.ofBits .f32 0x45000000#32) := by
  have ht := out_target W hl
  obtain ⟨T, hT⟩ : ∃ T : FVec Ideal S1x2048 .f32, uitofp (F := Ideal) .f32 (cmpf .ogt (res_main_v147 W) (broadcastInDim S1x2048 ![] bcast_S_S1x2048 (Host.divf (Host.reduceAdd (res_main_v147 W) (constant S_ .f32 0x00000000#32) reducesTo_S1x2048_S_d0_1 h_S_) (constant S_ .f32 0x45000000#32)))) = T := ⟨_, rfl⟩
  rw [hT] at ht ⊢
  clean_types
  obtain ⟨v, hv⟩ : ∃ v : FVec Ideal S1x2048 .f32, res_main_v168 W = v := ⟨_, rfl⟩
  rw [hv] at hr ⊢
  pointwise [ht, hr]
  simp only [Fin.sum_univ_one, hr, ht, zero_sub]

end Cert.ReferenceIdeal.Refs
-- ==== Proof.Hosts.lean ====
/-
  What the program does outside its calls, entry by entry: the reshaped arguments, the table of rotations, and the rows of the query and
  key weights sorted into first and second halves of every head.
-/
module

public import proofs.«01_k».proof.Proof.Spec
public import proofs.«01_k».proof.Proof.Gen.KernelIdeal.Regions
public import Idealize.ShloMosaic.Lib.Pointwise
public import Idealize.ShloMosaic.Lib.WordCmp
public import Idealize.ShloMosaic.Lib.Claim
public import Idealize.ShloMosaic.Lib.Routing.Ops

@[expose] public section

set_option maxRecDepth 16384

noncomputable section

namespace Cert.KernelIdeal.Hosts

open Cert.KernelIdeal Cert.KernelIdeal.Gen Idealize.ShloMosaic Idealize.ShloMosaic.TcCoe Idealize.SL.Sem Idealize.ShloMosaic.StableHlo
open Cert.Spec

variable (σ : Valuation τ sig (Elt Ideal))

/-- The weight row of position `o` of the first halves: head `o / 32`, coordinate `o % 32`. -/
def lowRow (o : Fin 512) : Fin 1024 := ⟨o.val / 32 * 64 + o.val % 32, by omega⟩
/-- The weight row of position `o` of the second halves. -/
def highRow (o : Fin 512) : Fin 1024 := ⟨o.val / 32 * 64 + o.val % 32 + 32, by omega⟩

/-- The word of a first half's weight row. -/
theorem low_word (n : ℕ) : IntOp.addi (IntOp.muli (BitVec.ofNat 32 (n / 32)) 64#32) (BitVec.ofNat 32 (n % 32)) = BitVec.ofNat 32 (n / 32 * 64 + n % 32) := by
  show BitVec.ofNat 32 (n / 32) * BitVec.ofNat 32 64 + BitVec.ofNat 32 (n % 32) = _
  rw [← BitVec.ofNat_mul, ← BitVec.ofNat_add]

/-- The word of a second half's weight row. -/
theorem add_word (n : ℕ) : IntOp.addi (BitVec.ofNat 32 n) 32#32 = BitVec.ofNat 32 (n + 32) := by
  show BitVec.ofNat 32 n + BitVec.ofNat 32 32 = _
  rw [← BitVec.ofNat_add]

/-- A row number is not negative: the pick keeps it. -/
theorem pick_row {n : ℕ} (hn : n < 2 ^ 31) (p q : BitVec 32) : Scalar.select (IntOp.cmpi CmpIPredicate.slt (BitVec.ofNat 32 n) 0#32) p q = q := by
  have h : IntOp.cmpi CmpIPredicate.slt (BitVec.ofNat 32 n) (BitVec.ofNat 32 0) = BitVec.ofBool (decide (n < 0)) := WordCmp.cmpi_slt_ofNat hn (by norm_num)
  rw [show (0#32 : BitVec 32) = BitVec.ofNat 32 0 from rfl, h]
  rfl

/-! ## Before the first call -/

theorem x_at (t : Fin 2048) (d : Fin 1024) : after hostOps0 σ (Proc.devRef .tc main_v0) (ix2 t d) = σ (Proc.devRef .tc main_arg0) (ix3 0 t d) := by
  entry_read
  pointwise

theorem l1_at (d : Fin 1024) : after hostOps0 σ (Proc.devRef .tc main_v39) (ix2 0 d) = σ (Proc.devRef .tc main_arg2) (ix1 d) := by
  entry_read
  pointwise

theorem vw_at (o k : Fin 1024) : after hostOps0 σ (Proc.devRef .tc main_v72) (ix2 o k) = σ (Proc.devRef .tc main_arg7) (ix2 o k) := by
  entry_read
  pointwise

theorem cos_at (t : Fin 2048) (o : Fin 512) : after hostOps0 σ (Proc.devRef .tc main_v34) (ix2 t o)
    = Ideal.cos (angle (fun t => σ (Proc.devRef .tc main_arg1) (ix2 0 t)) t ⟨o.val % 32, by omega⟩) := by
  entry_read
  pointwise [angle, freq]
  rfl

theorem sin_at (t : Fin 2048) (o : Fin 512) : after hostOps0 σ (Proc.devRef .tc main_v38) (ix2 t o)
    = Ideal.sin (angle (fun t => σ (Proc.devRef .tc main_arg1) (ix2 0 t)) t ⟨o.val % 32, by omega⟩) := by
  entry_read
  pointwise [angle, freq]
  rfl

theorem qa_at (o : Fin 512) (k : Fin 1024) : after hostOps0 σ (Proc.devRef .tc main_v47) (ix2 o k) = σ (Proc.devRef .tc main_arg3) (ix2 (lowRow o) k) := by
  entry_read
  refine Routing.gather_row _ rfl rfl rfl rfl rfl _ _ o k (lowRow o) ?_ (by norm_num)
  pointwise
  simp only [low_word]
  exact pick_row (by have := o.isLt; show _ < _; simp only [ValueIdx.ix2]; omega) _ _

theorem qb_at (o : Fin 512) (k : Fin 1024) : after hostOps0 σ (Proc.devRef .tc main_v55) (ix2 o k) = σ (Proc.devRef .tc main_arg3) (ix2 (highRow o) k) := by
  entry_read
  refine Routing.gather_row _ rfl rfl rfl rfl rfl _ _ o k (highRow o) ?_ (by norm_num)
  pointwise
  simp only [low_word, add_word]
  exact pick_row (by have := o.isLt; show _ < _; simp only [ValueIdx.ix2]; omega) _ _

theorem ka_at (o : Fin 512) (k : Fin 1024) : after hostOps0 σ (Proc.devRef .tc main_v63) (ix2 o k) = σ (Proc.devRef .tc main_arg5) (ix2 (lowRow o) k) := by
  entry_read
  refine Routing.gather_row _ rfl rfl rfl rfl rfl _ _ o k (lowRow o) ?_ (by norm_num)
  pointwise
  simp only [low_word]
  exact pick_row (by have := o.isLt; show _ < _; simp only [ValueIdx.ix2]; omega) _ _

theorem kb_at (o : Fin 512) (k : Fin 1024) : after hostOps0 σ (Proc.devRef .tc main_v71) (ix2 o k) = σ (Proc.devRef .tc main_arg5) (ix2 (highRow o) k) := by
  entry_read
  refine Routing.gather_row _ rfl rfl rfl rfl rfl _ _ o k (highRow o) ?_ (by norm_num)
  pointwise
  simp only [low_word, add_word]
  exact pick_row (by have := o.isLt; show _ < _; simp only [ValueIdx.ix2]; omega) _ _

/-! ## Between the calls -/

theorem q_at (h : Fin 16) (t : Fin 2048) (j : Fin 64) : after hostOps1 σ (Proc.devRef .tc main_v77) (ix3 h t j)
    = if hj : j.val < 32 then σ (Proc.devRef .tc main_v73_0) (ix2 t ⟨h.val * 32 + j.val, by omega⟩)
      else σ (Proc.devRef .tc main_v73_1) (ix2 t ⟨h.val * 32 + (j.val - 32), by omega⟩) := by
  entry_read
  pointwise

theorem k_at (h : Fin 16) (t : Fin 2048) (j : Fin 64) : after hostOps1 σ (Proc.devRef .tc main_v81) (ix3 h t j)
    = if hj : j.val < 32 then σ (Proc.devRef .tc main_v73_2) (ix2 t ⟨h.val * 32 + j.val, by omega⟩)
      else σ (Proc.devRef .tc main_v73_3) (ix2 t ⟨h.val * 32 + (j.val - 32), by omega⟩) := by
  entry_read
  pointwise

theorem v_at (h : Fin 16) (t : Fin 2048) (j : Fin 64) : after hostOps1 σ (Proc.devRef .tc main_v83) (ix3 h t j)
    = σ (Proc.devRef .tc main_v73_4) (ix2 t (col h j)) := by
  entry_read
  pointwise [col]

theorem ctx_at (t : Fin 2048) (o : Fin 1024) : after hostOps2 σ (Proc.devRef .tc main_v86) (ix2 t o)
    = σ (Proc.devRef .tc main_v84) (ix3 (headOf o) t ⟨o.val % 64, by omega⟩) := by
  entry_read
  pointwise [headOf]

theorem ow_at (o k : Fin 1024) : after hostOps2 σ (Proc.devRef .tc main_v87) (ix2 o k) = σ (Proc.devRef .tc main_arg9) (ix2 o k) := by
  entry_read
  pointwise

theorem l2_at (d : Fin 1024) : after hostOps2 σ (Proc.devRef .tc main_v88) (ix2 0 d) = σ (Proc.devRef .tc main_arg10) (ix1 d) := by
  entry_read
  pointwise

theorem gw_at (o : Fin 2816) (k : Fin 1024) : after hostOps2 σ (Proc.devRef .tc main_v89) (ix2 o k) = σ (Proc.devRef .tc main_arg11) (ix2 o k) := by
  entry_read
  pointwise

theorem uw_at (o : Fin 2816) (k : Fin 1024) : after hostOps2 σ (Proc.devRef .tc main_v90) (ix2 o k) = σ (Proc.devRef .tc main_arg12) (ix2 o k) := by
  entry_read
  pointwise

theorem dw_at (o : Fin 1024) (k : Fin 2816) : after hostOps2 σ (Proc.devRef .tc main_v91) (ix2 o k) = σ (Proc.devRef .tc main_arg13) (ix2 o k) := by
  entry_read
  pointwise

theorem w1_at (o k : Fin 1024) : after hostOps3 σ (Proc.devRef .tc main_v93) (ix2 o k) = σ (Proc.devRef .tc main_arg14) (ix2 o k) := by
  entry_read
  pointwise

theorem w2_at (o k : Fin 1024) : after hostOps3 σ (Proc.devRef .tc main_v94) (ix2 o k) = σ (Proc.devRef .tc main_arg16) (ix2 o k) := by
  entry_read
  pointwise

/-! ## After the last call -/

theorem post_at (t : Fin 2048) (d : Fin 1024) : after hostOps5 σ (Proc.devRef .tc main_v97) (ix3 0 t d) = σ (Proc.devRef .tc main_v92) (ix2 t d) := by
  entry_read
  pointwise

theorem loss_at (j : S_.Idx) : after hostOps5 σ (Proc.devRef .tc main_v98) j = σ (Proc.devRef .tc main_v96_3) (ix2 0 0) := by
  entry_read
  pointwise

theorem causal_at (j : S_.Idx) : after hostOps5 σ (Proc.devRef .tc main_v99) j = σ (Proc.devRef .tc main_v96_4) (ix2 0 0) := by
  entry_read
  pointwise

theorem gate_at (t : Fin 2048) : after hostOps5 σ (Proc.devRef .tc main_v100) (ix2 0 t) = σ (Proc.devRef .tc main_v96_0) (ix2 t 0) := by
  entry_read
  pointwise

theorem target_at (t : Fin 2048) : after hostOps5 σ (Proc.devRef .tc main_v101) (ix2 0 t) = σ (Proc.devRef .tc main_v96_1) (ix2 t 0) := by
  entry_read
  pointwise

theorem prob_at (t : Fin 2048) : after hostOps5 σ (Proc.devRef .tc main_v102) (ix2 0 t) = σ (Proc.devRef .tc main_v96_2) (ix2 t 0) := by
  entry_read
  pointwise

end Cert.KernelIdeal.Hosts
-- ==== Proof.Pay.lean ====
/-
  What one block of each call computes, entry by entry, as functions of the block's own rows: the normalised and rotated projections,
  the context of 256 rows of a head, the feed-forward step, the rows' lengths and scores, the prediction's error, and the gates.
-/
module

public import Idealize.ShloMosaic.Lib.Pipeline.ValueKit
public import Idealize.ShloMosaic.Lib.WordCmp
public import proofs.«01_k».proof.Proof.Gen.KernelIdeal.Skeleton
public import proofs.«01_k».proof.Proof.Reals

@[expose] public section

set_option maxRecDepth 16384

noncomputable section

namespace Cert.KernelIdeal.Pay

open Idealize.ShloMosaic Cert.KernelIdeal Cert.KernelIdeal.Gen Cert.Spec

/-! ## Masks -/

/-- A pick by a row number against another. -/
theorem pick_le {α : Type} {a b : ℕ} (ha : a < 2 ^ 31) (hb : b < 2 ^ 31) (p q : α) :
    Scalar.select (IntOp.cmpi CmpIPredicate.sle (BitVec.ofNat 32 a) (BitVec.ofNat 32 b)) p q = if a ≤ b then p else q := by
  word_cmp
/-- A pick by whether a row number is zero. -/
theorem pick_zero {α : Type} {n : ℕ} (hn : n < 2 ^ 31) (p q : α) :
    Scalar.select (IntOp.cmpi CmpIPredicate.eq (BitVec.ofNat 32 n) 0#32) p q = if n = 0 then p else q := by
  word_cmp
theorem pick_zero' {α : Type} {n : ℕ} (hn : n < 2 ^ 31) (p q : α) :
    Scalar.select (Scalar.cmpi CmpIPredicate.eq (BitVec.ofNat 32 n) 0#32) p q = if n = 0 then p else q := by
  word_cmp
/-- Row `a` of block `i`, as a word. -/
theorem row_word (a i : ℕ) : IntOp.addi (BitVec.ofNat 32 a) (Scalar.muli (BitVec.ofNat 32 i) 256#32) = BitVec.ofNat 32 (i * 256 + a) := by
  rw [Nat.add_comm]
  simp [IntOp.addi, Scalar.muli, IntOp.muli, BitVec.ofNat_add, BitVec.ofNat_mul]

/-! ## The projections -/

theorem normed (x : FVec Ideal S256x1024 .f32) (l : FVec Ideal S1x1024 .f32) (a : Fin 256) (d : Fin 1024) :
    k0_pay6 (F := Ideal) x l (ix2 a d) = norm (fun a d => x (ix2 a d)) (fun d => l (ix2 0 d)) a d := by
  pointwise [k0_pay6, Spec.norm, Spec.rms]

theorem proj9 (x : FVec Ideal S256x1024 .f32) (l : FVec Ideal S1x1024 .f32) (w : FVec Ideal S512x1024 .bf16) (a : Fin 256) (o : Fin 512) :
    k0_pay9 (F := Ideal) x l w (ix2 a o) = lin (norm (fun a d => x (ix2 a d)) (fun d => l (ix2 0 d))) (fun o d => w (ix2 o d)) a o := by
  pointwise [k0_pay9, normed, Spec.lin]
theorem proj10 (x : FVec Ideal S256x1024 .f32) (l : FVec Ideal S1x1024 .f32) (w : FVec Ideal S512x1024 .bf16) (a : Fin 256) (o : Fin 512) :
    k0_pay10 (F := Ideal) x l w (ix2 a o) = lin (norm (fun a d => x (ix2 a d)) (fun d => l (ix2 0 d))) (fun o d => w (ix2 o d)) a o := by
  pointwise [k0_pay10, normed, Spec.lin]
theorem proj11 (x : FVec Ideal S256x1024 .f32) (l : FVec Ideal S1x1024 .f32) (w : FVec Ideal S512x1024 .bf16) (a : Fin 256) (o : Fin 512) :
    k0_pay11 (F := Ideal) x l w (ix2 a o) = lin (norm (fun a d => x (ix2 a d)) (fun d => l (ix2 0 d))) (fun o d => w (ix2 o d)) a o := by
  pointwise [k0_pay11, normed, Spec.lin]
theorem proj12 (x : FVec Ideal S256x1024 .f32) (l : FVec Ideal S1x1024 .f32) (w : FVec Ideal S512x1024 .bf16) (a : Fin 256) (o : Fin 512) :
    k0_pay12 (F := Ideal) x l w (ix2 a o) = lin (norm (fun a d => x (ix2 a d)) (fun d => l (ix2 0 d))) (fun o d => w (ix2 o d)) a o := by
  pointwise [k0_pay12, normed, Spec.lin]

/-- A block's values: the normalised rows against the value weights. -/
theorem values (x : FVec Ideal S256x1024 .f32) (l : FVec Ideal S1x1024 .f32) (w : FVec Ideal S1024x1024 .bf16) (a : Fin 256) (o : Fin 1024) :
    k0_pay5 (F := Ideal) (k0_pay6 x l) w (ix2 a o) = lin (norm (fun a d => x (ix2 a d)) (fun d => l (ix2 0 d))) (fun o d => w (ix2 o d)) a o := by
  pointwise [k0_pay5, normed, Spec.lin]

/-- The first half of the rotated queries. -/
theorem lowQ (x : FVec Ideal S256x1024 .f32) (l : FVec Ideal S1x1024 .f32) (c s : FVec Ideal S256x512 .f32) (wa wb : FVec Ideal S512x1024 .bf16) (a : Fin 256) (o : Fin 512) :
    k0_pay1 (F := Ideal) (k0_pay13 x l c s wa wb) (ix2 a o)
      = lin (norm (fun a d => x (ix2 a d)) (fun d => l (ix2 0 d))) (fun o d => wa (ix2 o d)) a o * c (ix2 a o) - lin (norm (fun a d => x (ix2 a d)) (fun d => l (ix2 0 d))) (fun o d => wb (ix2 o d)) a o * s (ix2 a o) := by
  pointwise [k0_pay1, k0_pay13, k0_pay7, k0_pay8, proj9, proj10, proj11, proj12]

/-- The second half. -/
theorem highQ (x : FVec Ideal S256x1024 .f32) (l : FVec Ideal S1x1024 .f32) (c s : FVec Ideal S256x512 .f32) (wa wb : FVec Ideal S512x1024 .bf16) (a : Fin 256) (o : Fin 512) :
    k0_pay2 (F := Ideal) (k0_pay7 c) (k0_pay8 s) (k0_pay9 x l wa) (k0_pay10 x l wb) (ix2 a o)
      = lin (norm (fun a d => x (ix2 a d)) (fun d => l (ix2 0 d))) (fun o d => wb (ix2 o d)) a o * c (ix2 a o) + lin (norm (fun a d => x (ix2 a d)) (fun d => l (ix2 0 d))) (fun o d => wa (ix2 o d)) a o * s (ix2 a o) := by
  pointwise [k0_pay2, k0_pay13, k0_pay7, k0_pay8, proj9, proj10, proj11, proj12]

/-- The first half of the rotated keys. -/
theorem lowK (x : FVec Ideal S256x1024 .f32) (l : FVec Ideal S1x1024 .f32) (c s : FVec Ideal S256x512 .f32) (wa wb : FVec Ideal S512x1024 .bf16) (a : Fin 256) (o : Fin 512) :
    k0_pay3 (F := Ideal) (k0_pay7 c) (k0_pay8 s) (k0_pay11 x l wa) (k0_pay12 x l wb) (ix2 a o)
      = lin (norm (fun a d => x (ix2 a d)) (fun d => l (ix2 0 d))) (fun o d => wa (ix2 o d)) a o * c (ix2 a o) - lin (norm (fun a d => x (ix2 a d)) (fun d => l (ix2 0 d))) (fun o d => wb (ix2 o d)) a o * s (ix2 a o) := by
  pointwise [k0_pay3, k0_pay13, k0_pay7, k0_pay8, proj9, proj10, proj11, proj12]

/-- The second half. -/
theorem highK (x : FVec Ideal S256x1024 .f32) (l : FVec Ideal S1x1024 .f32) (c s : FVec Ideal S256x512 .f32) (wa wb : FVec Ideal S512x1024 .bf16) (a : Fin 256) (o : Fin 512) :
    k0_pay4 (F := Ideal) (k0_pay7 c) (k0_pay8 s) (k0_pay11 x l wa) (k0_pay12 x l wb) (ix2 a o)
      = lin (norm (fun a d => x (ix2 a d)) (fun d => l (ix2 0 d))) (fun o d => wb (ix2 o d)) a o * c (ix2 a o) + lin (norm (fun a d => x (ix2 a d)) (fun d => l (ix2 0 d))) (fun o d => wa (ix2 o d)) a o * s (ix2 a o) := by
  pointwise [k0_pay4, k0_pay13, k0_pay7, k0_pay8, proj9, proj10, proj11, proj12]

/-! ## The context -/

theorem attn (i : grid1.Coords) (q : FVec Ideal S1x256x64 .bf16) (k v : FVec Ideal S1x2048x64 .bf16) (a : Fin 256) (j : Fin 64) :
    k1_pay1 (F := Ideal) i q k v (ix3 0 a j)
      = ctx (fun c => if c.val ≤ (i 1).val * 256 + a.val then (∑ l, q (ix3 0 a l) * k (ix3 0 c l)) * Ideal.ofBits .f32 0x3E000000#32
          else Ideal.ofBits .f32 0xCE6E6B28#32) (fun c => v (ix3 0 c j)) := by
  pointwise [k1_pay1, Spec.ctx, Spec.weight, Spec.rowmax]
  have hi : (i 1).val < 8 := (i 1).isLt
  have e : ∀ (n : ℕ) (p q : EReal), n < 2048 → Scalar.select (IntOp.cmpi CmpIPredicate.sle (BitVec.ofNat 32 n)
      (IntOp.addi (BitVec.ofNat 32 a.val) (Scalar.muli (BitVec.ofNat 32 (i 1).val) 256#32))) p q = if n ≤ (i 1).val * 256 + a.val then p else q :=
    fun n p q hn => by rw [row_word]; exact pick_le (by omega) (by omega) p q
  simp (disch := omega) only [e]
  refine congrArg₂ Ideal.div ?_ rfl
  symm
  exact Fin.sum_univ_two_halves (N := 2048) 1024 1024 rfl _

theorem mlp (x : FVec Ideal S256x1024 .f32) (y : FVec Ideal S256x1024 .bf16) (ow : FVec Ideal S1024x1024 .bf16) (l : FVec Ideal S1x1024 .f32)
    (gw uw : FVec Ideal S2816x1024 .bf16) (dw : FVec Ideal S1024x2816 .bf16) (a : Fin 256) (d : Fin 1024) :
    k2_pay1 (F := Ideal) x y ow l gw uw dw (ix2 a d)
      = post (mid (fun a d => x (ix2 a d)) (fun a d => y (ix2 a d)) (fun o d => ow (ix2 o d))) (fun d => l (ix2 0 d))
          (fun o d => gw (ix2 o d)) (fun o d => uw (ix2 o d)) (fun o d => dw (ix2 o d)) a d := by
  pointwise [k2_pay1, Spec.post, Spec.mid, Spec.lin, Spec.act, Spec.silu, Spec.norm, Spec.rms]

theorem length (z x : FVec Ideal S256x1024 .f32) (a : Fin 256) :
    k3_pay8 (F := Ideal) z x (ix2 a 0) = Ideal.sqrt (∑ d, (z (ix2 a d) - x (ix2 a d)) * (z (ix2 a d) - x (ix2 a d))) := by
  pointwise [k3_pay8, k3_pay6, k3_pay4]

theorem routed (x : FVec Ideal S256x1024 .f32) (r : FVec Ideal S1x1024 .f32) (a : Fin 256) :
    k3_pay1 (F := Ideal) x r (ix2 a 0) = ∑ d, x (ix2 a d) * r (ix2 0 d) := by
  pointwise [k3_pay1]

theorem carried (z : FVec Ideal S256x1024 .f32) (a : Fin 8) (d : Fin 1024) :
    k3_pay5 (F := Ideal) z (ix2 a d) = z (ix2 ⟨248 + a.val, by omega⟩ d) := by
  pointwise [k3_pay5, k3_pay4]

theorem squared (e : FVec Ideal S256x1024 .f32) (s : FVec Ideal S1x1 .f32) :
    k3_pay3 (F := Ideal) e s (ix2 0 0) = s (ix2 0 0) + ∑ a, ∑ d, e (ix2 a d) * e (ix2 a d) := by
  pointwise [k3_pay3]

theorem error (i : grid3.Coords) (z : FVec Ideal S256x1024 .f32) (k : FVec Ideal S1x1024 .f32) (w1 w2 : FVec Ideal S1024x1024 .bf16)
    (x : FVec Ideal S256x1024 .f32) (a : Fin 256) (d : Fin 1024) :
    k3_pay7 (F := Ideal) i z k w1 w2 x (ix2 a d)
      = pred (fun (a : Fin 256) d => if a.val = 0 then (if (i 0).val = 0 then 0 else k (ix2 0 d)) else z (ix2 ⟨a.val - 1, by omega⟩ d))
          (fun o d => w1 (ix2 o d)) (fun o d => w2 (ix2 o d)) a d - (z (ix2 a d) - x (ix2 a d)) := by
  pointwise [k3_pay7, k3_pay6, k3_pay4, Spec.pred, Spec.lin, Spec.silu]
  have hi : (i 0).val < 8 := (i 0).isLt
  simp only [pick_zero (show a.val < 2 ^ 31 by omega), pick_zero' (show (i 0).val < 2 ^ 31 by omega)]
  have h : ∀ d, (if a.val = 0 then (if (i 0).val = 0 then 0 else k (ix2 0 d)) else z (ix2 ⟨(a.val + 256 - 1) % 256, Nat.mod_lt _ (by omega)⟩ d))
      = if a.val = 0 then (if (i 0).val = 0 then 0 else k (ix2 0 d)) else z (ix2 ⟨a.val - 1, by omega⟩ d) := fun d => by
    split
    · rfl
    · congr 3; omega
  simp only [h]

theorem lossed (s : FVec Ideal S1x1 .f32) : k4_pay1 (F := Ideal) s (ix2 0 0) = Ideal.div (s (ix2 0 0)) (Ideal.ofBits .f32 0x4A000000#32) := by
  pointwise [k4_pay1]

theorem meaned (r : FVec Ideal S2048x1 .f32) : k4_pay3 (F := Ideal) r = mean (fun t => r (ix2 t 0)) := by
  pointwise [k4_pay3, k4_pay2, Spec.mean]
  simp

theorem gated (r : FVec Ideal S2048x1 .f32) (t : Fin 2048) :
    k4_pay4 (F := Ideal) r (ix2 t 0) = Ideal.logistic (r (ix2 t 0) - mean (fun t => r (ix2 t 0))) := by
  pointwise [k4_pay4, k4_pay2, meaned]

theorem probed (r : FVec Ideal S2048x1 .f32) (t : Fin 2048) : k4_pay7 (F := Ideal) r (ix2 t 0) = Ideal.logistic (r (ix2 t 0)) := by
  pointwise [k4_pay7, k4_pay6]

theorem targeted (r : FVec Ideal S2048x1 .f32) (t : Fin 2048) :
    k4_pay5 (F := Ideal) r (ix2 t 0) = if mean (fun t => r (ix2 t 0)) < r (ix2 t 0) then 1 else 0 := by
  pointwise [k4_pay5, k4_pay2, meaned]
  show (((BitVec.setWidth 32 (BitVec.ofBool (decide (mean (fun t => r (ix2 t 0)) < r (ix2 t 0)))) : BitVec 32).toInt : ℝ) : EReal) = _
  split <;> rename_i h
  · rw [decide_eq_true h]; exact (by norm_num : (((1 : ℤ) : ℝ) : EReal) = 1)
  · rw [decide_eq_false h]; exact (by norm_num : (((0 : ℤ) : ℝ) : EReal) = 0)

theorem causal (r s : FVec Ideal S2048x1 .f32) :
    k4_pay8 (F := Ideal) r s (ix2 0 0)
      = Ideal.div (∑ t : Fin 2048, (max (s (ix2 t 0)) 0 - s (ix2 t 0) * (if mean (fun t => r (ix2 t 0)) < r (ix2 t 0) then 1 else 0)
          + Ideal.log1p (Ideal.exp (0 - FloatOps.absf (s (ix2 t 0)))))) (Ideal.ofBits .f32 0x45000000#32) := by
  pointwise [k4_pay8, k4_pay6, targeted]
  simp

end Cert.KernelIdeal.Pay
-- ==== Proof.Blocks.lean ====
/-
  What each call's output array holds once its blocks are done, entry by entry, as functions of the arrays the call started from: block `t`
  of an output covers rows `256 t` to `256 t + 255` and holds what the block's own rows give.
-/
module

public import proofs.«01_k».proof.Proof.Pay
public import proofs.«01_k».proof.Proof.Gen.Own.KernelIdeal.K0.Frame
public import proofs.«01_k».proof.Proof.Gen.Own.KernelIdeal.K1.Frame
public import proofs.«01_k».proof.Proof.Gen.Own.KernelIdeal.K2.Frame
public import proofs.«01_k».proof.Proof.Gen.Own.KernelIdeal.K4.Frame

@[expose] public section

set_option maxRecDepth 16384

noncomputable section

namespace Cert.KernelIdeal.Blocks

open Idealize.ShloMosaic Cert.KernelIdeal Cert.KernelIdeal.Gen Cert.Spec
open Cert.KernelIdeal.Own

variable (V : (c : Dev nD) → (b : Ref sig .tc) → Buf (Elt Ideal) ((c.tc : Thread nD τ).loc b)) (D : Dev nD → CellTallies nD τ sig Unit)

/-- Row `a` of block `n`. -/
def row (n : Fin 8) (a : Fin 256) : Fin 2048 := ⟨n.val * 256 + a.val, by omega⟩

/-! ## The projections -/

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx0_9 : ∀ t : Fin cfg0.N, win0_9.index t = ![t.val, 0] := (by decide +kernel : ∀ t : Fin grid0.N, _)
theorem idx0_10 : ∀ t : Fin cfg0.N, win0_10.index t = ![t.val, 0] := (by decide +kernel : ∀ t : Fin grid0.N, _)
theorem idx0_11 : ∀ t : Fin cfg0.N, win0_11.index t = ![t.val, 0] := (by decide +kernel : ∀ t : Fin grid0.N, _)
theorem idx0_12 : ∀ t : Fin cfg0.N, win0_12.index t = ![t.val, 0] := (by decide +kernel : ∀ t : Fin grid0.N, _)
theorem idx0_13 : ∀ t : Fin cfg0.N, win0_13.index t = ![t.val, 0] := (by decide +kernel : ∀ t : Fin grid0.N, _)

theorem blk0_0 (c : Dev nD) (t : Fin cfg0.N) (a : Fin 256) (d : Fin 1024) : K0.iblk V c 0 t (ix2 a d) = V c main_v0 (ix2 (row t a) d) := by
  blk_point [K0.iblk, row, idx0_0 t]

theorem blk0_1 (c : Dev nD) (t : Fin cfg0.N) (a : Fin 1) (d : Fin 1024) : K0.iblk V c 1 t (ix2 a d) = V c main_v39 (ix2 a d) := by
  blk_point [K0.iblk, row, idx0_1 t]

theorem blk0_2 (c : Dev nD) (t : Fin cfg0.N) (a : Fin 512) (d : Fin 1024) : K0.iblk V c 2 t (ix2 a d) = V c main_v47 (ix2 a d) := by
  blk_point [K0.iblk, row, idx0_2 t]

theorem blk0_3 (c : Dev nD) (t : Fin cfg0.N) (a : Fin 512) (d : Fin 1024) : K0.iblk V c 3 t (ix2 a d) = V c main_v55 (ix2 a d) := by
  blk_point [K0.iblk, row, idx0_3 t]

theorem blk0_4 (c : Dev nD) (t : Fin cfg0.N) (a : Fin 512) (d : Fin 1024) : K0.iblk V c 4 t (ix2 a d) = V c main_v63 (ix2 a d) := by
  blk_point [K0.iblk, row, idx0_4 t]

theorem blk0_5 (c : Dev nD) (t : Fin cfg0.N) (a : Fin 512) (d : Fin 1024) : K0.iblk V c 5 t (ix2 a d) = V c main_v71 (ix2 a d) := by
  blk_point [K0.iblk, row, idx0_5 t]

theorem blk0_6 (c : Dev nD) (t : Fin cfg0.N) (a : Fin 1024) (d : Fin 1024) : K0.iblk V c 6 t (ix2 a d) = V c main_v72 (ix2 a d) := by
  blk_point [K0.iblk, row, idx0_6 t]

theorem blk0_7 (c : Dev nD) (t : Fin cfg0.N) (a : Fin 256) (d : Fin 512) : K0.iblk V c 7 t (ix2 a d) = V c main_v34 (ix2 (row t a) d) := by
  blk_point [K0.iblk, row, idx0_7 t]

theorem blk0_8 (c : Dev nD) (t : Fin cfg0.N) (a : Fin 256) (d : Fin 512) : K0.iblk V c 8 t (ix2 a d) = V c main_v38 (ix2 (row t a) d) := by
  blk_point [K0.iblk, row, idx0_8 t]

/-- The normalised rows' products with a weight matrix. -/
def projArr {n : ℕ} (x : FVec Ideal S2048x1024 .f32) (l : FVec Ideal S1x1024 .f32) (w : FVec Ideal ⟨2, ![n, 1024]⟩ .bf16) (t : Fin 2048) (o : Fin n) : EReal :=
  lin (norm (fun t d => x (ix2 t d)) (fun d => l (ix2 0 d))) (fun o d => w (ix2 o d)) t o

/-- The first half of every head's rotated rows. -/
def lowArr (x : FVec Ideal S2048x1024 .f32) (l : FVec Ideal S1x1024 .f32) (wa wb : FVec Ideal S512x1024 .bf16) (c s : FVec Ideal S2048x512 .f32) :
    FVec Ideal S2048x512 .bf16 := fun j => projArr x l wa (j 0) (j 1) * c (ix2 (j 0) (j 1)) - projArr x l wb (j 0) (j 1) * s (ix2 (j 0) (j 1))
/-- The second half. -/
def highArr (x : FVec Ideal S2048x1024 .f32) (l : FVec Ideal S1x1024 .f32) (wa wb : FVec Ideal S512x1024 .bf16) (c s : FVec Ideal S2048x512 .f32) :
    FVec Ideal S2048x512 .bf16 := fun j => projArr x l wb (j 0) (j 1) * c (ix2 (j 0) (j 1)) + projArr x l wa (j 0) (j 1) * s (ix2 (j 0) (j 1))
/-- The values. -/
def valArr (x : FVec Ideal S2048x1024 .f32) (l : FVec Ideal S1x1024 .f32) (w : FVec Ideal S1024x1024 .bf16) : FVec Ideal S2048x1024 .bf16 :=
  fun j => projArr x l w (j 0) (j 1)

theorem final0_9 (c : Dev nD) : (K0.dat (U := UR sig nD τ) (Lvl := ℕ) Variants.none V D c).arrAt 9 cfg0.N = lowArr (V c main_v0) (V c main_v39) (V c main_v47) (V c main_v55) (V c main_v34) (V c main_v38) := by
  refine (K0.dat (U := UR sig nD τ) (Lvl := ℕ) Variants.none V D c).arrAt_eq_of_covers 9 _ (by decide +kernel) fun t _ y => ?_
  blk_simp
  rw [K0.after0_9]; unfold K0.outsAt0; frame_out
  idx_vars y
  have h : ((win0_9.blk t).view.emb (ix2 y0 y1)) = ix2 (row t y0) y1 := by blk_ext [row, (idx0_9 t)]
  refine Eq.trans ?_ (congrArg _ h.symm)
  refine (Pay.lowQ _ _ _ _ _ _ _ _).trans ?_
  simp only [blk0_0 V c t, blk0_1 V c t, blk0_2 V c t, blk0_3 V c t, blk0_7 V c t, blk0_8 V c t]
  rfl

theorem final0_10 (c : Dev nD) : (K0.dat (U := UR sig nD τ) (Lvl := ℕ) Variants.none V D c).arrAt 10 cfg0.N = highArr (V c main_v0) (V c main_v39) (V c main_v47) (V c main_v55) (V c main_v34) (V c main_v38) := by
  refine (K0.dat (U := UR sig nD τ) (Lvl := ℕ) Variants.none V D c).arrAt_eq_of_covers 10 _ (by decide +kernel) fun t _ y => ?_
  blk_simp
  rw [K0.after0_10]; unfold K0.outsAt0; frame_out
  idx_vars y
  have h : ((win0_10.blk t).view.emb (ix2 y0 y1)) = ix2 (row t y0) y1 := by blk_ext [row, (idx0_10 t)]
  refine Eq.trans ?_ (congrArg _ h.symm)
  refine (Pay.highQ _ _ _ _ _ _ _ _).trans ?_
  simp only [blk0_0 V c t, blk0_1 V c t, blk0_2 V c t, blk0_3 V c t, blk0_7 V c t, blk0_8 V c t]
  rfl

theorem final0_11 (c : Dev nD) : (K0.dat (U := UR sig nD τ) (Lvl := ℕ) Variants.none V D c).arrAt 11 cfg0.N = lowArr (V c main_v0) (V c main_v39) (V c main_v63) (V c main_v71) (V c main_v34) (V c main_v38) := by
  refine (K0.dat (U := UR sig nD τ) (Lvl := ℕ) Variants.none V D c).arrAt_eq_of_covers 11 _ (by decide +kernel) fun t _ y => ?_
  blk_simp
  rw [K0.after0_11]; unfold K0.outsAt0; frame_out
  idx_vars y
  have h : ((win0_11.blk t).view.emb (ix2 y0 y1)) = ix2 (row t y0) y1 := by blk_ext [row, (idx0_11 t)]
  refine Eq.trans ?_ (congrArg _ h.symm)
  refine (Pay.lowK _ _ _ _ _ _ _ _).trans ?_
  simp only [blk0_0 V c t, blk0_1 V c t, blk0_4 V c t, blk0_5 V c t, blk0_7 V c t, blk0_8 V c t]
  rfl

theorem final0_12 (c : Dev nD) : (K0.dat (U := UR sig nD τ) (Lvl := ℕ) Variants.none V D c).arrAt 12 cfg0.N = highArr (V c main_v0) (V c main_v39) (V c main_v63) (V c main_v71) (V c main_v34) (V c main_v38) := by
  refine (K0.dat (U := UR sig nD τ) (Lvl := ℕ) Variants.none V D c).arrAt_eq_of_covers 12 _ (by decide +kernel) fun t _ y => ?_
  blk_simp
  rw [K0.after0_12]; unfold K0.outsAt0; frame_out
  idx_vars y
  have h : ((win0_12.blk t).view.emb (ix2 y0 y1)) = ix2 (row t y0) y1 := by blk_ext [row, (idx0_12 t)]
  refine Eq.trans ?_ (congrArg _ h.symm)
  refine (Pay.highK _ _ _ _ _ _ _ _).trans ?_
  simp only [blk0_0 V c t, blk0_1 V c t, blk0_4 V c t, blk0_5 V c t, blk0_7 V c t, blk0_8 V c t]
  rfl

theorem final0_13 (c : Dev nD) : (K0.dat (U := UR sig nD τ) (Lvl := ℕ) Variants.none V D c).arrAt 13 cfg0.N = valArr (V c main_v0) (V c main_v39) (V c main_v72) := by
  refine (K0.dat (U := UR sig nD τ) (Lvl := ℕ) Variants.none V D c).arrAt_eq_of_covers 13 _ (by decide +kernel) fun t _ y => ?_
  blk_simp
  rw [K0.after0_13]; unfold K0.outsAt0; frame_out
  idx_vars y
  have h : ((win0_13.blk t).view.emb (ix2 y0 y1)) = ix2 (row t y0) y1 := by blk_ext [row, (idx0_13 t)]
  refine Eq.trans ?_ (congrArg _ h.symm)
  refine (Pay.values _ _ _ _ _).trans ?_
  simp only [blk0_0 V c t, blk0_1 V c t, blk0_6 V c t]
  rfl

/-! ## The context -/

theorem idx1 : ∀ t : Fin cfg1.N, win1_0.index t = ![(grid1.coords t 0).val, (grid1.coords t 1).val, 0] ∧ win1_1.index t = ![(grid1.coords t 0).val, 0, 0]
    ∧ win1_2.index t = ![(grid1.coords t 0).val, 0, 0] ∧ win1_3.index t = ![(grid1.coords t 0).val, (grid1.coords t 1).val, 0] :=
  (by decide +kernel : ∀ t : Fin grid1.N, _)

/-- The context array over the arrays of queries, keys and values. -/
def ctxArr (q k v : FVec Ideal S16x2048x64 .bf16) : FVec Ideal S16x2048x64 .bf16 := fun j =>
  ctx (score (fun h t d => q (ix3 h t d)) (fun h t d => k (ix3 h t d)) (j 0) (j 1)) (fun c => v (ix3 (j 0) c (j 2)))

set_option maxHeartbeats 1000000 in
theorem final1 (c : Dev nD) : (K1.dat (U := UR sig nD τ) (Lvl := ℕ) Variants.none V D c).arrAt 3 cfg1.N = ctxArr (V c main_v77) (V c main_v81) (V c main_v83) := by
  refine (K1.dat (U := UR sig nD τ) (Lvl := ℕ) Variants.none V D c).arrAt_eq_of_covers 3 _ (by decide +kernel) fun t _ y => ?_
  blk_simp
  rw [K1.after1_3]; unfold K1.outsAt1; frame_out
  idx_vars y
  obtain rfl : y0 = 0 := Subsingleton.elim _ _
  refine (Pay.attn _ _ _ _ _ _).trans ?_
  refine congrArg₂ ctx (funext fun c' => ?_) (funext fun c' => ?_)
  · unfold score
    blk_simp [K1.iblk, (idx1 t).1, (idx1 t).2.1, (idx1 t).2.2.1, (idx1 t).2.2.2]
    refine if_congr Iff.rfl (congrArg₂ (· * ·) (Finset.sum_congr rfl fun l _ => congrArg₂ (· * ·) ?_ ?_) rfl) rfl
    · blk_ext [(idx1 t).1, (idx1 t).2.1, (idx1 t).2.2.1, (idx1 t).2.2.2]
    · blk_ext [(idx1 t).1, (idx1 t).2.1, (idx1 t).2.2.1, (idx1 t).2.2.2]
  · blk_point [K1.iblk, (idx1 t).1, (idx1 t).2.1, (idx1 t).2.2.1, (idx1 t).2.2.2]

/-! ## The feed-forward step -/

theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![t.val, 0] := (by decide +kernel : ∀ t : Fin grid2.N, _)

theorem blk2_0 (c : Dev nD) (t : Fin cfg2.N) (a : Fin 256) (d : Fin 1024) : K2.iblk V c 0 t (ix2 a d) = V c main_v0 (ix2 (row t a) d) := by
  blk_point [K2.iblk, row, idx2_0 t]

theorem blk2_1 (c : Dev nD) (t : Fin cfg2.N) (a : Fin 256) (d : Fin 1024) : K2.iblk V c 1 t (ix2 a d) = V c main_v86 (ix2 (row t a) d) := by
  blk_point [K2.iblk, row, idx2_1 t]

theorem blk2_2 (c : Dev nD) (t : Fin cfg2.N) (a : Fin 1024) (d : Fin 1024) : K2.iblk V c 2 t (ix2 a d) = V c main_v87 (ix2 a d) := by
  blk_point [K2.iblk, row, idx2_2 t]

theorem blk2_3 (c : Dev nD) (t : Fin cfg2.N) (a : Fin 1) (d : Fin 1024) : K2.iblk V c 3 t (ix2 a d) = V c main_v88 (ix2 a d) := by
  blk_point [K2.iblk, row, idx2_3 t]

theorem blk2_4 (c : Dev nD) (t : Fin cfg2.N) (a : Fin 2816) (d : Fin 1024) : K2.iblk V c 4 t (ix2 a d) = V c main_v89 (ix2 a d) := by
  blk_point [K2.iblk, row, idx2_4 t]

theorem blk2_5 (c : Dev nD) (t : Fin cfg2.N) (a : Fin 2816) (d : Fin 1024) : K2.iblk V c 5 t (ix2 a d) = V c main_v90 (ix2 a d) := by
  blk_point [K2.iblk, row, idx2_5 t]

theorem blk2_6 (c : Dev nD) (t : Fin cfg2.N) (a : Fin 1024) (d : Fin 2816) : K2.iblk V c 6 t (ix2 a d) = V c main_v91 (ix2 a d) := by
  blk_point [K2.iblk, row, idx2_6 t]

/-- The states after the layer's two steps, over the arrays of states, contexts and weights. -/
def postArr (x : FVec Ideal S2048x1024 .f32) (y : FVec Ideal S2048x1024 .bf16) (ow : FVec Ideal S1024x1024 .bf16) (l : FVec Ideal S1x1024 .f32)
    (gw uw : FVec Ideal S2816x1024 .bf16) (dw : FVec Ideal S1024x2816 .bf16) : FVec Ideal S2048x1024 .f32 := fun j =>
  post (mid (fun t d => x (ix2 t d)) (fun t d => y (ix2 t d)) (fun o d => ow (ix2 o d))) (fun d => l (ix2 0 d))
    (fun o d => gw (ix2 o d)) (fun o d => uw (ix2 o d)) (fun o d => dw (ix2 o d)) (j 0) (j 1)

theorem final2 (c : Dev nD) : (K2.dat (U := UR sig nD τ) (Lvl := ℕ) Variants.none V D c).arrAt 7 cfg2.N = postArr (V c main_v0) (V c main_v86) (V c main_v87) (V c main_v88) (V c main_v89) (V c main_v90) (V c main_v91) := by
  refine (K2.dat (U := UR sig nD τ) (Lvl := ℕ) Variants.none V D c).arrAt_eq_of_covers 7 _ (by decide +kernel) fun t _ y => ?_
  blk_simp
  rw [K2.after2_7]; unfold K2.outsAt2; frame_out
  idx_vars y
  have h : ((win2_7.blk t).view.emb (ix2 y0 y1)) = ix2 (row t y0) y1 := by blk_ext [row, (idx2_7 t)]
  refine Eq.trans ?_ (congrArg _ h.symm)
  refine (Pay.mlp _ _ _ _ _ _ _ _ _).trans ?_
  simp only [blk2_0 V c t, blk2_1 V c t, blk2_2 V c t, blk2_3 V c t, blk2_4 V c t, blk2_5 V c t, blk2_6 V c t]
  rfl

end Cert.KernelIdeal.Blocks
-- ==== Proof.Tails.lean ====
/-
  What the last two calls leave: every row's residual length and routing score, the squared error of the predictions summed over all the
  blocks, and the gates read off those.
-/
module

public import proofs.«01_k».proof.Proof.Blocks
public import proofs.«01_k».proof.Proof.TailIdeal
public import Idealize.ShloMosaic.Lib.Pipeline.ReadBack

@[expose] public section

set_option maxRecDepth 16384

noncomputable section

namespace Cert.KernelIdeal.Blocks

open Idealize.ShloMosaic Cert.KernelIdeal Cert.KernelIdeal.Gen Cert.Spec
open Cert.KernelIdeal.Own

variable (V : (c : Dev nD) → (b : Ref sig .tc) → Buf (Elt Ideal) ((c.tc : Thread nD τ).loc b)) (D : Dev nD → CellTallies nD τ sig Unit)

/-! ## Lengths and scores -/

theorem idx3_0 : ∀ t : Fin cfg3.N, win3_0.index t = ![t.val, 0] := (by decide +kernel : ∀ t : Fin grid3.N, _)
theorem idx3_1 : ∀ t : Fin cfg3.N, win3_1.index t = ![t.val, 0] := (by decide +kernel : ∀ t : Fin grid3.N, _)
theorem idx3_2 : ∀ t : Fin cfg3.N, win3_2.index t = ![0, 0] := (by decide +kernel : ∀ t : Fin grid3.N, _)
theorem idx3_3 : ∀ t : Fin cfg3.N, win3_3.index t = ![0, 0] := (by decide +kernel : ∀ t : Fin grid3.N, _)
theorem idx3_4 : ∀ t : Fin cfg3.N, win3_4.index t = ![0, 0] := (by decide +kernel : ∀ t : Fin grid3.N, _)
theorem idx3_5 : ∀ t : Fin cfg3.N, win3_5.index t = ![t.val, 0] := (by decide +kernel : ∀ t : Fin grid3.N, _)
theorem idx3_6 : ∀ t : Fin cfg3.N, win3_6.index t = ![t.val, 0] := (by decide +kernel : ∀ t : Fin grid3.N, _)
theorem idx3_7 : ∀ t : Fin cfg3.N, win3_7.index t = ![0, 0] := (by decide +kernel : ∀ t : Fin grid3.N, _)

theorem blk3_0 (c : Dev nD) (t : Fin cfg3.N) (a : Fin 256) (d : Fin 1024) : Tail.iblk V c 0 t (ix2 a d) = V c main_v0 (ix2 (row t a) d) := by
  blk_point [Tail.iblk, row, idx3_0 t]

theorem blk3_1 (c : Dev nD) (t : Fin cfg3.N) (a : Fin 256) (d : Fin 1024) : Tail.iblk V c 1 t (ix2 a d) = V c main_v92 (ix2 (row t a) d) := by
  blk_point [Tail.iblk, row, idx3_1 t]

theorem blk3_2 (c : Dev nD) (t : Fin cfg3.N) (a : Fin 1024) (d : Fin 1024) : Tail.iblk V c 2 t (ix2 a d) = V c main_v93 (ix2 a d) := by
  blk_point [Tail.iblk, row, idx3_2 t]

theorem blk3_3 (c : Dev nD) (t : Fin cfg3.N) (a : Fin 1024) (d : Fin 1024) : Tail.iblk V c 3 t (ix2 a d) = V c main_v94 (ix2 a d) := by
  blk_point [Tail.iblk, row, idx3_3 t]

theorem blk3_4 (c : Dev nD) (t : Fin cfg3.N) (a : Fin 1) (d : Fin 1024) : Tail.iblk V c 4 t (ix2 a d) = V c main_arg18 (ix2 a d) := by
  blk_point [Tail.iblk, row, idx3_4 t]

/-- The rows' residual lengths. -/
def lenArr (x z : FVec Ideal S2048x1024 .f32) : FVec Ideal S2048x1 .f32 := fun j => len (fun t d => x (ix2 t d)) (fun t d => z (ix2 t d)) (j 0)
/-- The rows' routing scores. -/
def routeArr (x : FVec Ideal S2048x1024 .f32) (r : FVec Ideal S1x1024 .f32) : FVec Ideal S2048x1 .f32 := fun j =>
  route (fun t d => x (ix2 t d)) (fun d => r (ix2 0 d)) (j 0)
/-- The summed squared error. -/
def sqArr (x z : FVec Ideal S2048x1024 .f32) (w1 w2 : FVec Ideal S1024x1024 .bf16) : FVec Ideal S1x1 .f32 := fun _ =>
  sq (fun t d => x (ix2 t d)) (fun t d => z (ix2 t d)) (fun o d => w1 (ix2 o d)) (fun o d => w2 (ix2 o d))

theorem final3_5 (c : Dev nD) : (Tail.dat (F := Ideal) (U := UR sig nD τ) (Lvl := ℕ) V D c).arrAt 5 cfg3.N = lenArr (V c main_v0) (V c main_v92) := by
  refine (Tail.dat (F := Ideal) (U := UR sig nD τ) (Lvl := ℕ) V D c).arrAt_eq_of_covers 5 _ (by decide +kernel) fun t _ y => ?_
  blk_simp
  rw [Tail.after_5]
  idx_vars y
  obtain rfl : y1 = 0 := Subsingleton.elim _ _
  have h : ((win3_5.blk t).view.emb (ix2 y0 0)) = ix2 (row t y0) 0 := by blk_ext [row, (idx3_5 t)]
  refine Eq.trans ?_ (congrArg _ h.symm)
  refine (Pay.length _ _ _).trans ?_
  simp only [blk3_0 V c t, blk3_1 V c t]
  rfl

theorem final3_6 (c : Dev nD) : (Tail.dat (F := Ideal) (U := UR sig nD τ) (Lvl := ℕ) V D c).arrAt 6 cfg3.N = routeArr (V c main_v0) (V c main_arg18) := by
  refine (Tail.dat (F := Ideal) (U := UR sig nD τ) (Lvl := ℕ) V D c).arrAt_eq_of_covers 6 _ (by decide +kernel) fun t _ y => ?_
  blk_simp
  rw [Tail.after_6]
  idx_vars y
  obtain rfl : y1 = 0 := Subsingleton.elim _ _
  have h : ((win3_6.blk t).view.emb (ix2 y0 0)) = ix2 (row t y0) 0 := by blk_ext [row, (idx3_6 t)]
  refine Eq.trans ?_ (congrArg _ h.symm)
  refine (Pay.routed _ _ _).trans ?_
  simp only [blk3_0 V c t, blk3_4 V c t]
  rfl

/-! ## The summed squared error -/

/-- The prediction's error at row `a` of block `t`: the row before it is the block's own, or the last row of the block before. -/
theorem diff_at (c : Dev nD) (t : Fin cfg3.N) (a : Fin 256) (d : Fin 1024) :
    Tail.diffOf (F := Ideal) V c t (Tail.carry V c t) (ix2 a d)
      = diff (fun t d => V c main_v0 (ix2 t d)) (fun t d => V c main_v92 (ix2 t d)) (fun o d => V c main_v93 (ix2 o d)) (fun o d => V c main_v94 (ix2 o d)) (row t a) d := by
  unfold Tail.diffOf
  refine (Pay.error _ _ _ _ _ _ _ _).trans ?_
  have hk : ∀ d, View.ld (Tail.carry (F := Ideal) V c t) (Rect.unit (s := S8x1024) ![7, 0] S1x1024.size inb_S8x1024_S1x1024_7_0) (ix2 0 d)
      = V c main_v92 (ix2 (row ⟨t.val - 1, lt_of_le_of_lt (Nat.sub_le _ _) t.isLt⟩ 255) d) := fun d => by
    have e : (Rect.unit (s := S8x1024) ![7, 0] S1x1024.size inb_S8x1024_S1x1024_7_0).emb (ix2 0 d) = ix2 7 d := by blk_ext []
    refine (congrArg (Tail.carry (F := Ideal) V c t) e).trans ?_
    unfold Tail.carry
    exact (Pay.carried _ _ _).trans (blk3_1 V c _ _ _)
  simp only [hk, blk3_0 V c t, blk3_1 V c t, blk3_2 V c t, blk3_3 V c t, Tail.coords3_val]
  refine congrArg₂ (· - ·) ?_ rfl
  have hp : (fun d => if a.val = 0 then (if t.val = 0 then (0 : EReal) else V c main_v92 (ix2 (row ⟨t.val - 1, lt_of_le_of_lt (Nat.sub_le _ _) t.isLt⟩ 255) d))
        else V c main_v92 (ix2 (row t ⟨a.val - 1, by omega⟩) d))
      = prev (fun t d => V c main_v92 (ix2 t d)) (row t a) := funext fun d => by
    unfold prev row
    by_cases ha : a.val = 0
    · by_cases ht : t.val = 0
      · rw [if_pos ha, if_pos ht, if_pos (by show t.val * 256 + a.val = 0; omega)]
      · rw [if_pos ha, if_neg ht, if_neg (by show ¬t.val * 256 + a.val = 0; omega)]
        congr 2
        exact Fin.ext (by show (t.val - 1) * 256 + 255 = t.val * 256 + a.val - 1; omega)
    · rw [if_neg ha, if_neg (by show ¬t.val * 256 + a.val = 0; omega)]
      congr 2
      exact Fin.ext (by show t.val * 256 + (a.val - 1) = t.val * 256 + a.val - 1; omega)
  unfold pred lin
  exact Finset.sum_congr rfl fun o _ => congrArg₂ (· * ·)
    (congrArg silu (Finset.sum_congr rfl fun k _ => congrArg₂ (· * ·) (congrFun hp k) rfl)) rfl

/-- The accumulator after point `n` is the sum of the first `n + 1` blocks' squares. -/
theorem acc_at (c : Dev nD) : ∀ (n : ℕ) (h : n < cfg3.N), Tail.acc (F := Ideal) V c n h (ix2 0 0)
    = ∑ t : Fin (n + 1), ∑ a, ∑ d, Tail.diffOf (F := Ideal) V c ⟨t.val, lt_of_le_of_lt (Nat.le_of_lt_succ t.isLt) h⟩ (Tail.carry V c ⟨t.val, lt_of_le_of_lt (Nat.le_of_lt_succ t.isLt) h⟩) (ix2 a d)
        * Tail.diffOf (F := Ideal) V c ⟨t.val, lt_of_le_of_lt (Nat.le_of_lt_succ t.isLt) h⟩ (Tail.carry V c ⟨t.val, lt_of_le_of_lt (Nat.le_of_lt_succ t.isLt) h⟩) (ix2 a d)
  | 0, h => by
    rw [Fin.sum_univ_one]
    unfold Tail.acc
    refine (Pay.squared _ _).trans ?_
    have : k3_pay2 (F := Ideal) (ix2 0 0) = 0 := by pointwise [k3_pay2]
    rw [this, zero_add]; rfl
  | n + 1, h => by
    rw [Fin.sum_univ_castSucc]
    unfold Tail.acc
    refine (Pay.squared _ _).trans ?_
    rw [acc_at c n]; rfl

theorem final3_7 (c : Dev nD) : (Tail.dat (F := Ideal) (U := UR sig nD τ) (Lvl := ℕ) V D c).arrAt 7 cfg3.N = sqArr (V c main_v0) (V c main_v92) (V c main_v93) (V c main_v94) := by
  refine (Tail.dat (F := Ideal) (U := UR sig nD τ) (Lvl := ℕ) V D c).arrAt_eq_of_after_last 7 ⟨7, by decide⟩ (by decide +kernel) _ fun y => ?_
  have hz : ∀ z : S1x1.Idx, z = ix2 0 0 := fun z => by
    idx_vars z
    obtain rfl : z0 = 0 := Subsingleton.elim _ _
    obtain rfl : z1 = 0 := Subsingleton.elim _ _
    rfl
  refine (congrFun (Tail.after_7 (U := UR sig nD τ) (Lvl := ℕ) V D c ⟨7, by decide⟩) _).trans ?_
  refine (congrArg _ (hz _)).trans ((acc_at V c _ _).trans ?_)
  unfold sqArr Spec.sq
  simp only [diff_at V c]
  symm
  exact Fin.sum_univ_tiles (N := 2048) 8 256 rfl _

/-! ## The gates -/

theorem idx4_0 : ∀ t : Fin cfg4.N, win4_0.index t = ![0, 0] := (by decide +kernel : ∀ t : Fin grid4.N, _)
theorem idx4_1 : ∀ t : Fin cfg4.N, win4_1.index t = ![0, 0] := (by decide +kernel : ∀ t : Fin grid4.N, _)
theorem idx4_2 : ∀ t : Fin cfg4.N, win4_2.index t = ![0, 0] := (by decide +kernel : ∀ t : Fin grid4.N, _)
theorem idx4_3 : ∀ t : Fin cfg4.N, win4_3.index t = ![0, 0] := (by decide +kernel : ∀ t : Fin grid4.N, _)
theorem idx4_4 : ∀ t : Fin cfg4.N, win4_4.index t = ![0, 0] := (by decide +kernel : ∀ t : Fin grid4.N, _)
theorem idx4_5 : ∀ t : Fin cfg4.N, win4_5.index t = ![0, 0] := (by decide +kernel : ∀ t : Fin grid4.N, _)
theorem idx4_6 : ∀ t : Fin cfg4.N, win4_6.index t = ![0, 0] := (by decide +kernel : ∀ t : Fin grid4.N, _)
theorem idx4_7 : ∀ t : Fin cfg4.N, win4_7.index t = ![0, 0] := (by decide +kernel : ∀ t : Fin grid4.N, _)

theorem blk4_0 (c : Dev nD) (t : Fin cfg4.N) (a : Fin 2048) (d : Fin 1) : K4.iblk V c 0 t (ix2 a d) = V c main_v95_0 (ix2 a d) := by
  blk_point [K4.iblk, row, idx4_0 t]

theorem blk4_1 (c : Dev nD) (t : Fin cfg4.N) (a : Fin 2048) (d : Fin 1) : K4.iblk V c 1 t (ix2 a d) = V c main_v95_1 (ix2 a d) := by
  blk_point [K4.iblk, row, idx4_1 t]

theorem blk4_2 (c : Dev nD) (t : Fin cfg4.N) (a : Fin 1) (d : Fin 1) : K4.iblk V c 2 t (ix2 a d) = V c main_v95_2 (ix2 a d) := by
  blk_point [K4.iblk, row, idx4_2 t]

/-- The continuous gate. -/
def gateArr (r : FVec Ideal S2048x1 .f32) : FVec Ideal S2048x1 .f32 := fun j => Ideal.logistic (r (ix2 (j 0) 0) - mean (fun t => r (ix2 t 0)))
/-- The binary targets. -/
def tgtArr (r : FVec Ideal S2048x1 .f32) : FVec Ideal S2048x1 .f32 := fun j => if mean (fun t => r (ix2 t 0)) < r (ix2 (j 0) 0) then 1 else 0
/-- The routing probabilities. -/
def probArr (s : FVec Ideal S2048x1 .f32) : FVec Ideal S2048x1 .f32 := fun j => Ideal.logistic (s (ix2 (j 0) 0))
/-- The prediction's loss. -/
def lossArr (e : FVec Ideal S1x1 .f32) : FVec Ideal S1x1 .f32 := fun _ => Ideal.div (e (ix2 0 0)) (Ideal.ofBits .f32 0x4A000000#32)
/-- The routing's loss. -/
def causalArr (r s : FVec Ideal S2048x1 .f32) : FVec Ideal S1x1 .f32 := fun _ =>
  Ideal.div (∑ t : Fin 2048, (max (s (ix2 t 0)) 0 - s (ix2 t 0) * (if mean (fun t => r (ix2 t 0)) < r (ix2 t 0) then 1 else 0)
    + Ideal.log1p (Ideal.exp (0 - FloatOps.absf (s (ix2 t 0)))))) (Ideal.ofBits .f32 0x45000000#32)

theorem final4_3 (c : Dev nD) : (K4.dat (F := Ideal) (U := UR sig nD τ) (Lvl := ℕ) Variants.none V D c).arrAt 3 cfg4.N = gateArr (V c main_v95_0) := by
  refine (K4.dat (F := Ideal) (U := UR sig nD τ) (Lvl := ℕ) Variants.none V D c).arrAt_eq_of_covers 3 _ (by decide +kernel) fun t _ y => ?_
  blk_simp
  rw [K4.after4_3]; unfold K4.outsAt4; frame_out
  idx_vars y
  obtain rfl : y1 = 0 := Subsingleton.elim _ _
  have h : ((win4_3.blk t).view.emb (ix2 y0 0)) = ix2 y0 0 := by blk_ext [(idx4_3 t)]
  refine Eq.trans ?_ (congrArg _ h.symm)
  refine (Pay.gated _ _).trans ?_
  simp only [read_unread_whole, blk4_0 V c t]
  rfl

theorem final4_4 (c : Dev nD) : (K4.dat (F := Ideal) (U := UR sig nD τ) (Lvl := ℕ) Variants.none V D c).arrAt 4 cfg4.N = tgtArr (V c main_v95_0) := by
  refine (K4.dat (F := Ideal) (U := UR sig nD τ) (Lvl := ℕ) Variants.none V D c).arrAt_eq_of_covers 4 _ (by decide +kernel) fun t _ y => ?_
  blk_simp
  rw [K4.after4_4]; unfold K4.outsAt4; frame_out
  idx_vars y
  obtain rfl : y1 = 0 := Subsingleton.elim _ _
  have h : ((win4_4.blk t).view.emb (ix2 y0 0)) = ix2 y0 0 := by blk_ext [(idx4_4 t)]
  refine Eq.trans ?_ (congrArg _ h.symm)
  refine (Pay.targeted _ _).trans ?_
  simp only [read_unread_whole, blk4_0 V c t]
  rfl

theorem final4_5 (c : Dev nD) : (K4.dat (F := Ideal) (U := UR sig nD τ) (Lvl := ℕ) Variants.none V D c).arrAt 5 cfg4.N = probArr (V c main_v95_1) := by
  refine (K4.dat (F := Ideal) (U := UR sig nD τ) (Lvl := ℕ) Variants.none V D c).arrAt_eq_of_covers 5 _ (by decide +kernel) fun t _ y => ?_
  blk_simp
  rw [K4.after4_5]; unfold K4.outsAt4; frame_out
  idx_vars y
  obtain rfl : y1 = 0 := Subsingleton.elim _ _
  have h : ((win4_5.blk t).view.emb (ix2 y0 0)) = ix2 y0 0 := by blk_ext [(idx4_5 t)]
  refine Eq.trans ?_ (congrArg _ h.symm)
  refine (Pay.probed _ _).trans ?_
  simp only [read_unread_whole, blk4_1 V c t]
  rfl

theorem final4_6 (c : Dev nD) : (K4.dat (F := Ideal) (U := UR sig nD τ) (Lvl := ℕ) Variants.none V D c).arrAt 6 cfg4.N = lossArr (V c main_v95_2) := by
  refine (K4.dat (F := Ideal) (U := UR sig nD τ) (Lvl := ℕ) Variants.none V D c).arrAt_eq_of_covers 6 _ (by decide +kernel) fun t _ y => ?_
  blk_simp
  rw [K4.after4_6]; unfold K4.outsAt4; frame_out
  idx_vars y
  obtain rfl : y0 = 0 := Subsingleton.elim _ _
  obtain rfl : y1 = 0 := Subsingleton.elim _ _
  have h : ((win4_6.blk t).view.emb (ix2 0 0)) = ix2 0 0 := by blk_ext [(idx4_6 t)]
  refine Eq.trans ?_ (congrArg _ h.symm)
  refine (Pay.lossed _).trans ?_
  simp only [read_unread_whole, blk4_2 V c t]
  rfl

theorem final4_7 (c : Dev nD) : (K4.dat (F := Ideal) (U := UR sig nD τ) (Lvl := ℕ) Variants.none V D c).arrAt 7 cfg4.N = causalArr (V c main_v95_0) (V c main_v95_1) := by
  refine (K4.dat (F := Ideal) (U := UR sig nD τ) (Lvl := ℕ) Variants.none V D c).arrAt_eq_of_covers 7 _ (by decide +kernel) fun t _ y => ?_
  blk_simp
  rw [K4.after4_7]; unfold K4.outsAt4; frame_out
  idx_vars y
  obtain rfl : y0 = 0 := Subsingleton.elim _ _
  obtain rfl : y1 = 0 := Subsingleton.elim _ _
  have h : ((win4_7.blk t).view.emb (ix2 0 0)) = ix2 0 0 := by blk_ext [(idx4_7 t)]
  refine Eq.trans ?_ (congrArg _ h.symm)
  refine (Pay.causal _ _).trans ?_
  simp only [read_unread_whole, blk4_0 V c t, blk4_1 V c t]
  rfl

end Cert.KernelIdeal.Blocks
-- ==== Proof.Values.lean ====
/-
  What the program's arrays hold from call to call, as plain functions of the arguments: the rotated queries and keys, the context, the
  layer's states, the residual's lengths, the routing scores and the summed error.
-/
module

public import proofs.«01_k».proof.Proof.Hosts
public import proofs.«01_k».proof.Proof.Tails
public import proofs.«01_k».proof.Proof.RecordsIdeal

@[expose] public section

set_option maxRecDepth 16384

noncomputable section

namespace Cert.KernelIdeal.Values

open Cert.KernelIdeal Cert.KernelIdeal.Gen Idealize.ShloMosaic Idealize.ShloMosaic.TcCoe Idealize.SL.Sem
open Cert.Spec Cert.KernelIdeal.Run Cert.KernelIdeal.Blocks Cert.KernelIdeal.Hosts

variable (m : (ℓ : Loc nD τ sig) → Buf (Elt Ideal) ℓ) (c : Dev nD)

/-- The hidden states. -/
def x (t : Fin 2048) (d : Fin 1024) : EReal := V0 m c (Proc.devRef .tc main_arg0) (ix3 0 t d)
/-- The positions. -/
def pos (t : Fin 2048) : BitVec 32 := V0 m c (Proc.devRef .tc main_arg1) (ix2 0 t)
/-- The first normalisation's weights. -/
def l1 (d : Fin 1024) : EReal := V0 m c (Proc.devRef .tc main_arg2) (ix1 d)
/-- The query weights. -/
def qw (o k : Fin 1024) : EReal := V0 m c (Proc.devRef .tc main_arg3) (ix2 o k)
/-- The key weights. -/
def kw (o k : Fin 1024) : EReal := V0 m c (Proc.devRef .tc main_arg5) (ix2 o k)
/-- The value weights. -/
def vw (o k : Fin 1024) : EReal := V0 m c (Proc.devRef .tc main_arg7) (ix2 o k)
/-- The output weights. -/
def ow (o k : Fin 1024) : EReal := V0 m c (Proc.devRef .tc main_arg9) (ix2 o k)
/-- The second normalisation's weights. -/
def l2 (d : Fin 1024) : EReal := V0 m c (Proc.devRef .tc main_arg10) (ix1 d)
/-- The gate weights. -/
def gw (o : Fin 2816) (k : Fin 1024) : EReal := V0 m c (Proc.devRef .tc main_arg11) (ix2 o k)
/-- The up weights. -/
def uw (o : Fin 2816) (k : Fin 1024) : EReal := V0 m c (Proc.devRef .tc main_arg12) (ix2 o k)
/-- The down weights. -/
def dw (o : Fin 1024) (k : Fin 2816) : EReal := V0 m c (Proc.devRef .tc main_arg13) (ix2 o k)
/-- The prediction's first weights. -/
def w1 (o k : Fin 1024) : EReal := V0 m c (Proc.devRef .tc main_arg14) (ix2 o k)
/-- The prediction's second weights. -/
def w2 (o k : Fin 1024) : EReal := V0 m c (Proc.devRef .tc main_arg16) (ix2 o k)
/-- The routing weights. -/
def cr (k : Fin 1024) : EReal := V0 m c (Proc.devRef .tc main_arg18) (ix2 0 k)

/-! ## The first stretch's arrays -/

theorem x1 (t : Fin 2048) (d : Fin 1024) : V1 m c (Proc.devRef .tc main_v0) (ix2 t d) = x m c t d := x_at (V0 m c) t d
theorem l11 (d : Fin 1024) : V1 m c (Proc.devRef .tc main_v39) (ix2 0 d) = l1 m c d := l1_at (V0 m c) d
theorem vw1 (o k : Fin 1024) : V1 m c (Proc.devRef .tc main_v72) (ix2 o k) = vw m c o k := vw_at (V0 m c) o k
theorem cos1 (t : Fin 2048) (o : Fin 512) : V1 m c (Proc.devRef .tc main_v34) (ix2 t o) = Ideal.cos (angle (pos m c) t ⟨o.val % 32, by omega⟩) := cos_at (V0 m c) t o
theorem sin1 (t : Fin 2048) (o : Fin 512) : V1 m c (Proc.devRef .tc main_v38) (ix2 t o) = Ideal.sin (angle (pos m c) t ⟨o.val % 32, by omega⟩) := sin_at (V0 m c) t o

/-! ## The projections -/

/-- A projection onto the first halves' rows of a weight matrix. -/
theorem proj_at {w : FVec Ideal S512x1024 .bf16} {W : Fin 1024 → Fin 1024 → EReal} {r : Fin 512 → Fin 1024} (hw : ∀ o k, w (ix2 o k) = W (r o) k)
    (t : Fin 2048) (o : Fin 512) :
    projArr (V1 m c (Proc.devRef .tc main_v0)) (V1 m c (Proc.devRef .tc main_v39)) w t o = lin (Spec.norm (x m c) (l1 m c)) W t (r o) := by
  unfold projArr lin Spec.norm
  simp only [hw, x1 m c, l11 m c]

theorem qa_eq : V2 m (outsAll m) c (Proc.devRef .tc main_v73_0) = lowArr (V1 m c (Proc.devRef .tc main_v0)) (V1 m c (Proc.devRef .tc main_v39)) (V1 m c (Proc.devRef .tc main_v47)) (V1 m c (Proc.devRef .tc main_v55)) (V1 m c (Proc.devRef .tc main_v34)) (V1 m c (Proc.devRef .tc main_v38)) :=
  (V2_at_main_v73_0 m c).trans ((left0_9 m c).trans (final0_9 (fun c b => V1 m c (Proc.devRef .tc b)) D₀ c))
theorem qb_eq : V2 m (outsAll m) c (Proc.devRef .tc main_v73_1) = highArr (V1 m c (Proc.devRef .tc main_v0)) (V1 m c (Proc.devRef .tc main_v39)) (V1 m c (Proc.devRef .tc main_v47)) (V1 m c (Proc.devRef .tc main_v55)) (V1 m c (Proc.devRef .tc main_v34)) (V1 m c (Proc.devRef .tc main_v38)) :=
  (V2_at_main_v73_1 m c).trans ((left0_10 m c).trans (final0_10 (fun c b => V1 m c (Proc.devRef .tc b)) D₀ c))
theorem ka_eq : V2 m (outsAll m) c (Proc.devRef .tc main_v73_2) = lowArr (V1 m c (Proc.devRef .tc main_v0)) (V1 m c (Proc.devRef .tc main_v39)) (V1 m c (Proc.devRef .tc main_v63)) (V1 m c (Proc.devRef .tc main_v71)) (V1 m c (Proc.devRef .tc main_v34)) (V1 m c (Proc.devRef .tc main_v38)) :=
  (V2_at_main_v73_2 m c).trans ((left0_11 m c).trans (final0_11 (fun c b => V1 m c (Proc.devRef .tc b)) D₀ c))
theorem kb_eq : V2 m (outsAll m) c (Proc.devRef .tc main_v73_3) = highArr (V1 m c (Proc.devRef .tc main_v0)) (V1 m c (Proc.devRef .tc main_v39)) (V1 m c (Proc.devRef .tc main_v63)) (V1 m c (Proc.devRef .tc main_v71)) (V1 m c (Proc.devRef .tc main_v34)) (V1 m c (Proc.devRef .tc main_v38)) :=
  (V2_at_main_v73_3 m c).trans ((left0_12 m c).trans (final0_12 (fun c b => V1 m c (Proc.devRef .tc b)) D₀ c))
theorem v_eq : V2 m (outsAll m) c (Proc.devRef .tc main_v73_4) = valArr (V1 m c (Proc.devRef .tc main_v0)) (V1 m c (Proc.devRef .tc main_v39)) (V1 m c (Proc.devRef .tc main_v72)) :=
  (V2_at_main_v73_4 m c).trans ((left0_13 m c).trans (final0_13 (fun c b => V1 m c (Proc.devRef .tc b)) D₀ c))

/-- Both halves of a head's rotated row, at coordinate `j`. -/
theorem halves_at {wa wb : FVec Ideal S512x1024 .bf16} {W : Fin 1024 → Fin 1024 → EReal} (ha : ∀ o k, wa (ix2 o k) = W (lowRow o) k)
    (hb : ∀ o k, wb (ix2 o k) = W (highRow o) k) (h : Fin 16) (t : Fin 2048) (j : Fin 64) :
    (if hj : j.val < 32 then lowArr (V1 m c (Proc.devRef .tc main_v0)) (V1 m c (Proc.devRef .tc main_v39)) wa wb (V1 m c (Proc.devRef .tc main_v34)) (V1 m c (Proc.devRef .tc main_v38)) (ix2 t ⟨h.val * 32 + j.val, by omega⟩)
      else highArr (V1 m c (Proc.devRef .tc main_v0)) (V1 m c (Proc.devRef .tc main_v39)) wa wb (V1 m c (Proc.devRef .tc main_v34)) (V1 m c (Proc.devRef .tc main_v38)) (ix2 t ⟨h.val * 32 + (j.val - 32), by omega⟩))
      = rot (lin (Spec.norm (x m c) (l1 m c)) W) (angle (pos m c)) h t j := by
  unfold rot
  split <;> rename_i hj
  · have e1 : lowRow ⟨h.val * 32 + j.val, by omega⟩ = col h j := Fin.ext (by show (h.val * 32 + j.val) / 32 * 64 + (h.val * 32 + j.val) % 32 = h.val * 64 + j.val; omega)
    have e2 : highRow ⟨h.val * 32 + j.val, by omega⟩ = (⟨h.val * 64 + j.val + 32, by omega⟩ : Fin 1024) :=
      Fin.ext (by show (h.val * 32 + j.val) / 32 * 64 + (h.val * 32 + j.val) % 32 + 32 = h.val * 64 + j.val + 32; omega)
    have e3 : (⟨(h.val * 32 + j.val) % 32, by omega⟩ : Fin 32) = ⟨j.val, hj⟩ := Fin.ext (by show (h.val * 32 + j.val) % 32 = j.val; omega)
    show projArr _ _ wa t ⟨h.val * 32 + j.val, by omega⟩ * V1 m c (Proc.devRef .tc main_v34) (ix2 t ⟨h.val * 32 + j.val, by omega⟩)
      - projArr _ _ wb t ⟨h.val * 32 + j.val, by omega⟩ * V1 m c (Proc.devRef .tc main_v38) (ix2 t ⟨h.val * 32 + j.val, by omega⟩) = _
    rw [proj_at m c ha, proj_at m c hb, cos1 m c, sin1 m c, e1, e2]
    simp only [e3]
  · have e1 : highRow ⟨h.val * 32 + (j.val - 32), by omega⟩ = col h j :=
      Fin.ext (by show (h.val * 32 + (j.val - 32)) / 32 * 64 + (h.val * 32 + (j.val - 32)) % 32 + 32 = h.val * 64 + j.val; omega)
    have e2 : lowRow ⟨h.val * 32 + (j.val - 32), by omega⟩ = (⟨h.val * 64 + j.val - 32, by omega⟩ : Fin 1024) :=
      Fin.ext (by show (h.val * 32 + (j.val - 32)) / 32 * 64 + (h.val * 32 + (j.val - 32)) % 32 = h.val * 64 + j.val - 32; omega)
    have e3 : (⟨(h.val * 32 + (j.val - 32)) % 32, by omega⟩ : Fin 32) = ⟨j.val - 32, by omega⟩ := Fin.ext (by show (h.val * 32 + (j.val - 32)) % 32 = j.val - 32; omega)
    show projArr _ _ wb t ⟨h.val * 32 + (j.val - 32), by omega⟩ * V1 m c (Proc.devRef .tc main_v34) (ix2 t ⟨h.val * 32 + (j.val - 32), by omega⟩)
      + projArr _ _ wa t ⟨h.val * 32 + (j.val - 32), by omega⟩ * V1 m c (Proc.devRef .tc main_v38) (ix2 t ⟨h.val * 32 + (j.val - 32), by omega⟩) = _
    rw [proj_at m c ha, proj_at m c hb, cos1 m c, sin1 m c, e1, e2]
    simp only [e3]

theorem queries (h : Fin 16) (t : Fin 2048) (j : Fin 64) : V3 m (outsAll m) c (Proc.devRef .tc main_v77) (ix3 h t j)
    = rot (lin (Spec.norm (x m c) (l1 m c)) (qw m c)) (angle (pos m c)) h t j := by
  refine (q_at (V2 m (outsAll m) c) h t j).trans ?_
  rw [qa_eq, qb_eq]
  exact halves_at m c (qa_at (V0 m c)) (qb_at (V0 m c)) h t j

theorem keys (h : Fin 16) (t : Fin 2048) (j : Fin 64) : V3 m (outsAll m) c (Proc.devRef .tc main_v81) (ix3 h t j)
    = rot (lin (Spec.norm (x m c) (l1 m c)) (kw m c)) (angle (pos m c)) h t j := by
  refine (k_at (V2 m (outsAll m) c) h t j).trans ?_
  rw [ka_eq, kb_eq]
  exact halves_at m c (ka_at (V0 m c)) (kb_at (V0 m c)) h t j

theorem values (h : Fin 16) (t : Fin 2048) (j : Fin 64) : V3 m (outsAll m) c (Proc.devRef .tc main_v83) (ix3 h t j)
    = lin (Spec.norm (x m c) (l1 m c)) (vw m c) t (col h j) := by
  refine (v_at (V2 m (outsAll m) c) h t j).trans ?_
  rw [v_eq]
  show projArr _ _ _ t (col h j) = _
  unfold projArr
  simp only [x1 m c, l11 m c, vw1 m c]

/-! ## The context -/

/-- A layer's scores. -/
abbrev sc : Fin 16 → Fin 2048 → Fin 2048 → EReal := scores (x m c) (pos m c) (l1 m c) (qw m c) (kw m c)

theorem ctx_eq : V4 m (outsAll m) c (Proc.devRef .tc main_v84) = ctxArr (V3 m (outsAll m) c (Proc.devRef .tc main_v77)) (V3 m (outsAll m) c (Proc.devRef .tc main_v81)) (V3 m (outsAll m) c (Proc.devRef .tc main_v83)) := by
  rw [enter1]
  exact (V4_at_main_v84 m c).trans ((left1_3 m c).trans (final1 (fun c b => V3 m (outs0 m) c (Proc.devRef .tc b)) D₀ c))

theorem attended (t : Fin 2048) (o : Fin 1024) : V5 m (outsAll m) c (Proc.devRef .tc main_v86) (ix2 t o)
    = att (sc m c) (lin (Spec.norm (x m c) (l1 m c)) (vw m c)) t o := by
  refine (ctx_at (V4 m (outsAll m) c) t o).trans ?_
  rw [ctx_eq]
  show ctx (score _ _ (headOf o) t) (fun c' => V3 m (outsAll m) c (Proc.devRef .tc main_v83) (ix3 (headOf o) c' ⟨o.val % 64, by omega⟩)) = _
  have e : col (headOf o) ⟨o.val % 64, by omega⟩ = o := Fin.ext (by show o.val / 64 * 64 + o.val % 64 = o.val; omega)
  simp only [queries m c, keys m c, values m c, e]
  rfl

/-! ## The layer's states -/

theorem v0_5 (t : Fin 2048) (d : Fin 1024) : V5 m (outsAll m) c (Proc.devRef .tc main_v0) (ix2 t d) = x m c t d := by
  rw [V5_of m (outsAll m) c main_v0 (by decide), V4_of m (outsAll m) c main_v0 (by decide), V3_of m (outsAll m) c main_v0 (by decide), V2_of m (outsAll m) c main_v0 (by decide)]
  exact x1 m c t d

/-- An argument no item before the third call writes. -/
theorem arg4 (r : Ref sig .tc) (h4 : r ∉ ([main_v84] : List (Ref sig .tc))) (h3 : r ∉ hostOps1_W)
    (h2 : r ∉ ([main_v73_0, main_v73_1, main_v73_2, main_v73_3, main_v73_4] : List (Ref sig .tc))) (h1 : r ∉ hostOps0_W) :
    V4 m (outsAll m) c (Proc.devRef .tc r) = V0 m c (Proc.devRef .tc r) :=
  (V4_of m (outsAll m) c r h4).trans ((V3_of m (outsAll m) c r h3).trans ((V2_of m (outsAll m) c r h2).trans (V1_of m c r h1)))

/-- The states with the attention's output added. -/
abbrev md : Fin 2048 → Fin 1024 → EReal := mid (x m c) (att (sc m c) (lin (Spec.norm (x m c) (l1 m c)) (vw m c))) (ow m c)
/-- The layer's states. -/
abbrev ps : Fin 2048 → Fin 1024 → EReal := post (md m c) (l2 m c) (gw m c) (uw m c) (dw m c)

theorem post_eq : V6 m (outsAll m) c (Proc.devRef .tc main_v92) = postArr (V5 m (outsAll m) c (Proc.devRef .tc main_v0)) (V5 m (outsAll m) c (Proc.devRef .tc main_v86)) (V5 m (outsAll m) c (Proc.devRef .tc main_v87)) (V5 m (outsAll m) c (Proc.devRef .tc main_v88)) (V5 m (outsAll m) c (Proc.devRef .tc main_v89)) (V5 m (outsAll m) c (Proc.devRef .tc main_v90)) (V5 m (outsAll m) c (Proc.devRef .tc main_v91)) := by
  rw [enter2]
  exact (V6_at_main_v92 m c).trans ((left2_7 m c).trans (final2 (fun c b => V5 m (outs1 m) c (Proc.devRef .tc b)) D₀ c))

theorem posted (t : Fin 2048) (d : Fin 1024) : V6 m (outsAll m) c (Proc.devRef .tc main_v92) (ix2 t d) = ps m c t d := by
  have a9 : ∀ o k, V5 m (outsAll m) c (Proc.devRef .tc main_v87) (ix2 o k) = ow m c o k := fun o k =>
    (ow_at (V4 m (outsAll m) c) o k).trans (congrFun (arg4 m c main_arg9 (by decide) (by decide) (by decide) (by decide)) (ix2 o k))
  have a11 : ∀ o k, V5 m (outsAll m) c (Proc.devRef .tc main_v89) (ix2 o k) = gw m c o k := fun o k =>
    (gw_at (V4 m (outsAll m) c) o k).trans (congrFun (arg4 m c main_arg11 (by decide) (by decide) (by decide) (by decide)) (ix2 o k))
  have a12 : ∀ o k, V5 m (outsAll m) c (Proc.devRef .tc main_v90) (ix2 o k) = uw m c o k := fun o k =>
    (uw_at (V4 m (outsAll m) c) o k).trans (congrFun (arg4 m c main_arg12 (by decide) (by decide) (by decide) (by decide)) (ix2 o k))
  have a13 : ∀ o k, V5 m (outsAll m) c (Proc.devRef .tc main_v91) (ix2 o k) = dw m c o k := fun o k =>
    (dw_at (V4 m (outsAll m) c) o k).trans (congrFun (arg4 m c main_arg13 (by decide) (by decide) (by decide) (by decide)) (ix2 o k))
  have a10 : ∀ d, V5 m (outsAll m) c (Proc.devRef .tc main_v88) (ix2 0 d) = l2 m c d := fun d =>
    (l2_at (V4 m (outsAll m) c) d).trans (congrFun (arg4 m c main_arg10 (by decide) (by decide) (by decide) (by decide)) (ix1 d))
  rw [post_eq]
  show post _ _ _ _ _ t d = _
  simp only [v0_5 m c, attended m c, a9, a10, a11, a12, a13]

end Cert.KernelIdeal.Values
-- ==== Proof.ValuesTail.lean ====
/-
  What the two last calls leave, and the six results as plain functions of the arguments.
-/
module

public import proofs.«01_k».proof.Proof.Values

@[expose] public section

set_option maxRecDepth 16384

noncomputable section

namespace Cert.KernelIdeal.Values

open Cert.KernelIdeal Cert.KernelIdeal.Gen Idealize.ShloMosaic Idealize.ShloMosaic.TcCoe Idealize.SL.Sem
open Cert.Spec Cert.KernelIdeal.Run Cert.KernelIdeal.Blocks Cert.KernelIdeal.Hosts

variable (m : (ℓ : Loc nD τ sig) → Buf (Elt Ideal) ℓ) (c : Dev nD)

/-- An argument no item before the fourth call writes. -/
theorem arg6 (r : Ref sig .tc) (h6 : r ∉ ([main_v92] : List (Ref sig .tc))) (h5 : r ∉ hostOps2_W) (h4 : r ∉ ([main_v84] : List (Ref sig .tc))) (h3 : r ∉ hostOps1_W)
    (h2 : r ∉ ([main_v73_0, main_v73_1, main_v73_2, main_v73_3, main_v73_4] : List (Ref sig .tc))) (h1 : r ∉ hostOps0_W) :
    V6 m (outsAll m) c (Proc.devRef .tc r) = V0 m c (Proc.devRef .tc r) :=
  (V6_of m (outsAll m) c r h6).trans ((V5_of m (outsAll m) c r h5).trans (arg4 m c r h4 h3 h2 h1))

theorem v0_7 (t : Fin 2048) (d : Fin 1024) : V7 m (outsAll m) c (Proc.devRef .tc main_v0) (ix2 t d) = x m c t d := by
  rw [V7_of m (outsAll m) c main_v0 (by decide), V6_of m (outsAll m) c main_v0 (by decide)]
  exact v0_5 m c t d

theorem post7 (t : Fin 2048) (d : Fin 1024) : V7 m (outsAll m) c (Proc.devRef .tc main_v92) (ix2 t d) = ps m c t d := by
  rw [V7_of m (outsAll m) c main_v92 (by decide)]
  exact posted m c t d

theorem w17 (o k : Fin 1024) : V7 m (outsAll m) c (Proc.devRef .tc main_v93) (ix2 o k) = w1 m c o k :=
  (w1_at (V6 m (outsAll m) c) o k).trans (congrFun (arg6 m c main_arg14 (by decide) (by decide) (by decide) (by decide) (by decide) (by decide)) (ix2 o k))

theorem w27 (o k : Fin 1024) : V7 m (outsAll m) c (Proc.devRef .tc main_v94) (ix2 o k) = w2 m c o k :=
  (w2_at (V6 m (outsAll m) c) o k).trans (congrFun (arg6 m c main_arg16 (by decide) (by decide) (by decide) (by decide) (by decide) (by decide)) (ix2 o k))

theorem cr7 (k : Fin 1024) : V7 m (outsAll m) c (Proc.devRef .tc main_arg18) (ix2 0 k) = cr m c k := by
  rw [V7_of m (outsAll m) c main_arg18 (by decide), arg6 m c main_arg18 (by decide) (by decide) (by decide) (by decide) (by decide) (by decide)]
  rfl

/-! ## The fourth call -/

theorem len_eq : V8 m (outsAll m) c (Proc.devRef .tc main_v95_0) = lenArr (V7 m (outsAll m) c (Proc.devRef .tc main_v0)) (V7 m (outsAll m) c (Proc.devRef .tc main_v92)) := by
  rw [enter3]
  exact (V8_at_main_v95_0 m c).trans ((left3_5 m c).trans (final3_5 (fun c b => V7 m (outs2 m) c (Proc.devRef .tc b)) D₀ c))

theorem route_eq : V8 m (outsAll m) c (Proc.devRef .tc main_v95_1) = routeArr (V7 m (outsAll m) c (Proc.devRef .tc main_v0)) (V7 m (outsAll m) c (Proc.devRef .tc main_arg18)) := by
  rw [enter3]
  exact (V8_at_main_v95_1 m c).trans ((left3_6 m c).trans (final3_6 (fun c b => V7 m (outs2 m) c (Proc.devRef .tc b)) D₀ c))

theorem sq_eq : V8 m (outsAll m) c (Proc.devRef .tc main_v95_2) = sqArr (V7 m (outsAll m) c (Proc.devRef .tc main_v0)) (V7 m (outsAll m) c (Proc.devRef .tc main_v92)) (V7 m (outsAll m) c (Proc.devRef .tc main_v93)) (V7 m (outsAll m) c (Proc.devRef .tc main_v94)) := by
  rw [enter3]
  exact (V8_at_main_v95_2 m c).trans ((left3_7 m c).trans (final3_7 (fun c b => V7 m (outs2 m) c (Proc.devRef .tc b)) D₀ c))

/-- The residual's lengths. -/
abbrev rl (t : Fin 2048) : EReal := len (x m c) (ps m c) t
/-- The routing scores. -/
abbrev rs (t : Fin 2048) : EReal := route (x m c) (cr m c) t

theorem len8 (t : Fin 2048) : V8 m (outsAll m) c (Proc.devRef .tc main_v95_0) (ix2 t 0) = rl m c t := by
  rw [len_eq]
  show len _ _ t = _
  simp only [v0_7 m c, post7 m c]

theorem route8 (t : Fin 2048) : V8 m (outsAll m) c (Proc.devRef .tc main_v95_1) (ix2 t 0) = rs m c t := by
  rw [route_eq]
  show route _ _ t = _
  simp only [v0_7 m c, cr7 m c]

theorem sq8 : V8 m (outsAll m) c (Proc.devRef .tc main_v95_2) (ix2 0 0) = Spec.sq (x m c) (ps m c) (w1 m c) (w2 m c) := by
  rw [sq_eq]
  show Spec.sq _ _ _ _ = _
  simp only [v0_7 m c, post7 m c, w17 m c, w27 m c]

/-! ## The fifth call -/

theorem gate_eq : V9 m (outsAll m) c (Proc.devRef .tc main_v96_0) = gateArr (V8 m (outsAll m) c (Proc.devRef .tc main_v95_0)) := by
  rw [enter4]
  exact (V9_at_main_v96_0 m c).trans ((left4_3 m c).trans (final4_3 (fun c b => V8 m (outs3 m) c (Proc.devRef .tc b)) D₀ c))

theorem target_eq : V9 m (outsAll m) c (Proc.devRef .tc main_v96_1) = tgtArr (V8 m (outsAll m) c (Proc.devRef .tc main_v95_0)) := by
  rw [enter4]
  exact (V9_at_main_v96_1 m c).trans ((left4_4 m c).trans (final4_4 (fun c b => V8 m (outs3 m) c (Proc.devRef .tc b)) D₀ c))

theorem prob_eq : V9 m (outsAll m) c (Proc.devRef .tc main_v96_2) = probArr (V8 m (outsAll m) c (Proc.devRef .tc main_v95_1)) := by
  rw [enter4]
  exact (V9_at_main_v96_2 m c).trans ((left4_5 m c).trans (final4_5 (fun c b => V8 m (outs3 m) c (Proc.devRef .tc b)) D₀ c))

theorem loss_eq : V9 m (outsAll m) c (Proc.devRef .tc main_v96_3) = lossArr (V8 m (outsAll m) c (Proc.devRef .tc main_v95_2)) := by
  rw [enter4]
  exact (V9_at_main_v96_3 m c).trans ((left4_6 m c).trans (final4_6 (fun c b => V8 m (outs3 m) c (Proc.devRef .tc b)) D₀ c))

theorem causal_eq : V9 m (outsAll m) c (Proc.devRef .tc main_v96_4) = causalArr (V8 m (outsAll m) c (Proc.devRef .tc main_v95_0)) (V8 m (outsAll m) c (Proc.devRef .tc main_v95_1)) := by
  rw [enter4]
  exact (V9_at_main_v96_4 m c).trans ((left4_7 m c).trans (final4_7 (fun c b => V8 m (outs3 m) c (Proc.devRef .tc b)) D₀ c))

/-- The gate's entry, over lengths `r`. -/
theorem gate_of {a : FVec Ideal S2048x1 .f32} {r : Fin 2048 → EReal} (h : ∀ t, a (ix2 t 0) = r t) (t : Fin 2048) :
    gateArr a (ix2 t 0) = Ideal.logistic (r t - mean r) := by
  show Ideal.logistic (a (ix2 t 0) - mean fun t => a (ix2 t 0)) = _
  simp only [h]

/-- The target's entry, over lengths `r`. -/
theorem target_of {a : FVec Ideal S2048x1 .f32} {r : Fin 2048 → EReal} (h : ∀ t, a (ix2 t 0) = r t) (t : Fin 2048) :
    tgtArr a (ix2 t 0) = if mean r < r t then (1 : EReal) else 0 := by
  show (if mean (fun t => a (ix2 t 0)) < a (ix2 t 0) then (1 : EReal) else 0) = _
  simp only [h]

/-! ## The results -/

theorem out_post (t : Fin 2048) (d : Fin 1024) : V10 m (outsAll m) c (Proc.devRef .tc main_v97) (ix3 0 t d) = ps m c t d := by
  refine (post_at (V9 m (outsAll m) c) t d).trans ?_
  rw [V9_of m (outsAll m) c main_v92 (by decide), V8_of m (outsAll m) c main_v92 (by decide)]
  exact post7 m c t d

theorem out_loss (j : S_.Idx) : V10 m (outsAll m) c (Proc.devRef .tc main_v98) j
    = Ideal.div (Spec.sq (x m c) (ps m c) (w1 m c) (w2 m c)) (Ideal.ofBits .f32 0x4A000000#32) := by
  refine (loss_at (V9 m (outsAll m) c) j).trans ?_
  rw [loss_eq]
  exact congrArg (fun e => Ideal.div e (Ideal.ofBits .f32 0x4A000000#32)) (sq8 m c)

theorem out_causal (j : S_.Idx) : V10 m (outsAll m) c (Proc.devRef .tc main_v99) j
    = Ideal.div (∑ t, (max (rs m c t) 0 - rs m c t * (if mean (rl m c) < rl m c t then 1 else 0) + Ideal.log1p (Ideal.exp (0 - FloatOps.absf (F := Ideal) (φ := .f32) (rs m c t))))) (Ideal.ofBits .f32 0x45000000#32) := by
  refine (causal_at (V9 m (outsAll m) c) j).trans ?_
  rw [causal_eq]
  unfold causalArr
  simp only [len8 m c, route8 m c]

theorem out_gate (t : Fin 2048) : V10 m (outsAll m) c (Proc.devRef .tc main_v100) (ix2 0 t) = Ideal.logistic (rl m c t - mean (rl m c)) := by
  refine (gate_at (V9 m (outsAll m) c) t).trans ?_
  rw [gate_eq]
  exact gate_of (len8 m c) t

theorem out_target (t : Fin 2048) : V10 m (outsAll m) c (Proc.devRef .tc main_v101) (ix2 0 t) = (if mean (rl m c) < rl m c t then (1 : EReal) else 0 : EReal) := by
  refine (target_at (V9 m (outsAll m) c) t).trans ?_
  rw [target_eq]
  exact target_of (len8 m c) t

theorem out_prob (t : Fin 2048) : V10 m (outsAll m) c (Proc.devRef .tc main_v102) (ix2 0 t) = Ideal.logistic (rs m c t) := by
  refine (prob_at (V9 m (outsAll m) c) t).trans ?_
  rw [prob_eq]
  exact congrArg Ideal.logistic (route8 m c t)

end Cert.KernelIdeal.Values
-- ==== Proof.Equal.lean ====
/-
  The two programs' results are equal: both are the same plain functions of the arguments, on arguments the precondition holds of.
-/
module

public import proofs.«01_k».proof.Proof.Plain
public import proofs.«01_k».proof.Proof.RefsOut
public import proofs.«01_k».proof.Proof.ValuesTail
public import proofs.«01_k».proof.Proof.Frames

@[expose] public section

set_option maxRecDepth 16384

noncomputable section

namespace Cert.Proof

open Idealize.ShloMosaic Idealize.ShloMosaic.TcCoe Idealize.SL.Sem Idealize.ShloMosaic.StableHlo
open Cert.Spec (IsReal)

variable {m : (ℓ : Loc Cert.KernelIdeal.nD Cert.KernelIdeal.τ Cert.KernelIdeal.sig) → Buf (Elt Ideal) ℓ}
  {c : Dev Cert.KernelIdeal.nD} {W : Valuation Cert.ReferenceIdeal.τ Cert.ReferenceIdeal.sig (Elt Ideal)}

/-- The reference's arguments `W` are the kernel's, and the precondition holds of them. -/
structure Same (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal)) : Prop where
  x : Cert.ReferenceIdeal.Refs.x W = Cert.KernelIdeal.Values.x m c
  pos : Cert.ReferenceIdeal.Refs.pos W = Cert.KernelIdeal.Values.pos m c
  l1 : Cert.ReferenceIdeal.Refs.l1 W = Cert.KernelIdeal.Values.l1 m c
  qw : Cert.ReferenceIdeal.Refs.qw W = Cert.KernelIdeal.Values.qw m c
  kw : Cert.ReferenceIdeal.Refs.kw W = Cert.KernelIdeal.Values.kw m c
  vw : Cert.ReferenceIdeal.Refs.vw W = Cert.KernelIdeal.Values.vw m c
  ow : Cert.ReferenceIdeal.Refs.ow W = Cert.KernelIdeal.Values.ow m c
  l2 : Cert.ReferenceIdeal.Refs.l2 W = Cert.KernelIdeal.Values.l2 m c
  gw : Cert.ReferenceIdeal.Refs.gw W = Cert.KernelIdeal.Values.gw m c
  uw : Cert.ReferenceIdeal.Refs.uw W = Cert.KernelIdeal.Values.uw m c
  dw : Cert.ReferenceIdeal.Refs.dw W = Cert.KernelIdeal.Values.dw m c
  w1 : Cert.ReferenceIdeal.Refs.w1 W = Cert.KernelIdeal.Values.w1 m c
  w2 : Cert.ReferenceIdeal.Refs.w2 W = Cert.KernelIdeal.Values.w2 m c
  cr : Cert.ReferenceIdeal.Refs.cr W = Cert.KernelIdeal.Values.cr m c
  z4 : ∀ o, W (Proc.devRef .tc Cert.ReferenceIdeal.main_arg4) (ix1 o) = (0 : EReal)
  z6 : ∀ o, W (Proc.devRef .tc Cert.ReferenceIdeal.main_arg6) (ix1 o) = (0 : EReal)
  z8 : ∀ o, W (Proc.devRef .tc Cert.ReferenceIdeal.main_arg8) (ix1 o) = (0 : EReal)
  z15 : ∀ o, W (Proc.devRef .tc Cert.ReferenceIdeal.main_arg15) (ix1 o) = (0 : EReal)
  z17 : ∀ o, W (Proc.devRef .tc Cert.ReferenceIdeal.main_arg17) (ix1 o) = (0 : EReal)
  z19 : W (Proc.devRef .tc Cert.ReferenceIdeal.main_arg19) (ix1 0) = (0 : EReal)
  r2 : ∀ d, IsReal (Cert.ReferenceIdeal.Refs.l1 W d)
  r3 : ∀ o k, IsReal (Cert.ReferenceIdeal.Refs.qw W o k)
  r5 : ∀ o k, IsReal (Cert.ReferenceIdeal.Refs.kw W o k)

namespace Same

variable (s : Same m c W)
include s

theorem md : Cert.ReferenceIdeal.Refs.md W = Cert.KernelIdeal.Values.md m c := by
  unfold Cert.ReferenceIdeal.Refs.md Cert.ReferenceIdeal.Refs.sc
  rw [s.x, s.pos, s.l1, s.qw, s.kw, s.vw, s.ow]

theorem ps : Cert.ReferenceIdeal.Refs.ps W = Cert.KernelIdeal.Values.ps m c := by
  unfold Cert.ReferenceIdeal.Refs.ps
  rw [s.md, s.l2, s.gw, s.uw, s.dw]

theorem rl : Cert.ReferenceIdeal.Refs.rl W = Cert.KernelIdeal.Values.rl m c := by
  unfold Cert.ReferenceIdeal.Refs.rl
  rw [s.x, s.ps]

theorem rs : Cert.ReferenceIdeal.Refs.rs W = Cert.KernelIdeal.Values.rs m c := by
  unfold Cert.ReferenceIdeal.Refs.rs
  rw [s.x, s.cr]

theorem posted (t : Fin 2048) (d : Fin 1024) : Cert.ReferenceIdeal.Value.res_main_v127 W (ix3 0 t d) = Cert.ReferenceIdeal.Refs.ps W t d :=
  Cert.ReferenceIdeal.Refs.posted W (Cert.ReferenceIdeal.Refs.attended W s.z4 s.z6 s.z8 (Cert.Spec.scores_real _ _ s.r2 s.r3 s.r5)) t d

theorem length (t : Fin 2048) : Cert.ReferenceIdeal.Value.res_main_v147 W (ix2 0 t) = Cert.ReferenceIdeal.Refs.rl W t := Cert.ReferenceIdeal.Refs.length W s.posted t

theorem routed (t : Fin 2048) : Cert.ReferenceIdeal.Value.res_main_v168 W (ix2 0 t) = Cert.ReferenceIdeal.Refs.rs W t := Cert.ReferenceIdeal.Refs.routed W s.z19 t

end Same

end Cert.Proof

namespace Cert.ReferenceIdeal.Refs

open Cert.ReferenceIdeal Cert.ReferenceIdeal.Gen Idealize.ShloMosaic Idealize.ShloMosaic.TcCoe Idealize.SL.Sem Idealize.ShloMosaic.StableHlo
open Cert.ReferenceIdeal.Value

variable (W : Valuation τ sig (Elt Ideal))

/-- The reference's result: the layer's states. -/
def res_post : FVec Ideal ⟨3, ![1, 2048, 1024]⟩ .f32 :=
  res_main_v127 W

/-- The reference's result: the prediction loss. -/
def res_loss : FVec Ideal ⟨0, ![]⟩ .f32 :=
  Host.divf (Host.reduceAdd (mulf (res_main_v143 W) (res_main_v143 W)) (constant S_ .f32 0x00000000#32) reducesTo_S1x2048x1024_S_d0_1_2 h_S_) (constant S_ .f32 0x4A000000#32)

/-- The reference's result: the routing's loss. -/
def res_causal : FVec Ideal ⟨0, ![]⟩ .f32 :=
  Host.divf (Host.reduceAdd (addf (subf (maximumf (res_main_v168 W) (broadcastInDim S1x2048 ![] bcast_S_S1x2048 (constant S_ .f32 0x00000000#32))) (mulf (res_main_v168 W) (uitofp .f32 (cmpf .ogt (res_main_v147 W) (broadcastInDim S1x2048 ![] bcast_S_S1x2048 (Host.divf (Host.reduceAdd (res_main_v147 W) (constant S_ .f32 0x00000000#32) reducesTo_S1x2048_S_d0_1 h_S_) (constant S_ .f32 0x45000000#32))))))) (Host.log1p (Host.exp (Host.negf (Host.absf (res_main_v168 W)))))) (constant S_ .f32 0x00000000#32) reducesTo_S1x2048_S_d0_1 h_S_) (constant S_ .f32 0x45000000#32)

/-- The reference's result: the gate. -/
def res_gate : FVec Ideal ⟨2, ![1, 2048]⟩ .f32 :=
  Host.divf (broadcastInDim S1x2048 ![] bcast_S_S1x2048 (constant S_ .f32 0x3F800000#32)) (addf (broadcastInDim S1x2048 ![] bcast_S_S1x2048 (constant S_ .f32 0x3F800000#32)) (Host.exp (Host.negf (subf (res_main_v147 W) (broadcastInDim S1x2048 ![] bcast_S_S1x2048 (Host.divf (Host.reduceAdd (res_main_v147 W) (constant S_ .f32 0x00000000#32) reducesTo_S1x2048_S_d0_1 h_S_) (constant S_ .f32 0x45000000#32)))))))

/-- The reference's result: the targets. -/
def res_target : FVec Ideal ⟨2, ![1, 2048]⟩ .f32 :=
  uitofp .f32 (cmpf .ogt (res_main_v147 W) (broadcastInDim S1x2048 ![] bcast_S_S1x2048 (Host.divf (Host.reduceAdd (res_main_v147 W) (constant S_ .f32 0x00000000#32) reducesTo_S1x2048_S_d0_1 h_S_) (constant S_ .f32 0x45000000#32))))

/-- The reference's result: the routing's probabilities. -/
def res_prob : FVec Ideal ⟨2, ![1, 2048]⟩ .f32 :=
  Host.divf (broadcastInDim S1x2048 ![] bcast_S_S1x2048 (constant S_ .f32 0x3F800000#32)) (addf (broadcastInDim S1x2048 ![] bcast_S_S1x2048 (constant S_ .f32 0x3F800000#32)) (Host.exp (Host.negf (res_main_v168 W))))

end Cert.ReferenceIdeal.Refs

namespace Cert.Proof

open Idealize.ShloMosaic Idealize.ShloMosaic.TcCoe Idealize.SL.Sem Idealize.ShloMosaic.StableHlo

variable {m : (ℓ : Loc Cert.KernelIdeal.nD Cert.KernelIdeal.τ Cert.KernelIdeal.sig) → Buf (Elt Ideal) ℓ}
  {c : Dev Cert.KernelIdeal.nD} {W : Valuation Cert.ReferenceIdeal.τ Cert.ReferenceIdeal.sig (Elt Ideal)}

namespace Same

variable (s : Same m c W)
include s

theorem post : (Cert.KernelIdeal.Gen.V10 m (Cert.KernelIdeal.Run.outsAll m) c (Proc.devRef .tc Cert.KernelIdeal.main_v97) : FVec Ideal ⟨3, ![1, 2048, 1024]⟩ .f32) = Cert.ReferenceIdeal.Refs.res_post W := by
  funext j
  idx_vars j
  obtain rfl : j0 = 0 := Subsingleton.elim _ _
  refine (Cert.KernelIdeal.Values.out_post m c j1 j2).trans ?_
  rw [← s.ps]
  exact (s.posted j1 j2).symm

theorem loss : (Cert.KernelIdeal.Gen.V10 m (Cert.KernelIdeal.Run.outsAll m) c (Proc.devRef .tc Cert.KernelIdeal.main_v98) : FVec Ideal ⟨0, ![]⟩ .f32) = Cert.ReferenceIdeal.Refs.res_loss W := by
  funext j
  refine (Cert.KernelIdeal.Values.out_loss m c j).trans ?_
  rw [← s.ps, ← s.x, ← s.w1, ← s.w2]
  exact (Cert.ReferenceIdeal.Refs.out_loss W (Cert.ReferenceIdeal.Refs.missed W s.posted s.z15 s.z17) j).symm

theorem causal : (Cert.KernelIdeal.Gen.V10 m (Cert.KernelIdeal.Run.outsAll m) c (Proc.devRef .tc Cert.KernelIdeal.main_v99) : FVec Ideal ⟨0, ![]⟩ .f32) = Cert.ReferenceIdeal.Refs.res_causal W := by
  funext j
  refine (Cert.KernelIdeal.Values.out_causal m c j).trans ?_
  rw [← s.rl, ← s.rs]
  exact (Cert.ReferenceIdeal.Refs.out_causal W s.length s.routed j).symm

theorem gate : (Cert.KernelIdeal.Gen.V10 m (Cert.KernelIdeal.Run.outsAll m) c (Proc.devRef .tc Cert.KernelIdeal.main_v100) : FVec Ideal ⟨2, ![1, 2048]⟩ .f32) = Cert.ReferenceIdeal.Refs.res_gate W := by
  funext j
  idx_vars j
  obtain rfl : j0 = 0 := Subsingleton.elim _ _
  refine (Cert.KernelIdeal.Values.out_gate m c j1).trans ?_
  rw [← s.rl]
  exact (Cert.ReferenceIdeal.Refs.out_gate W s.length j1).symm

theorem target : (Cert.KernelIdeal.Gen.V10 m (Cert.KernelIdeal.Run.outsAll m) c (Proc.devRef .tc Cert.KernelIdeal.main_v101) : FVec Ideal ⟨2, ![1, 2048]⟩ .f32) = Cert.ReferenceIdeal.Refs.res_target W := by
  funext j
  idx_vars j
  obtain rfl : j0 = 0 := Subsingleton.elim _ _
  refine (Cert.KernelIdeal.Values.out_target m c j1).trans ?_
  rw [← s.rl]
  exact (Cert.ReferenceIdeal.Refs.out_target W s.length j1).symm

theorem prob : (Cert.KernelIdeal.Gen.V10 m (Cert.KernelIdeal.Run.outsAll m) c (Proc.devRef .tc Cert.KernelIdeal.main_v102) : FVec Ideal ⟨2, ![1, 2048]⟩ .f32) = Cert.ReferenceIdeal.Refs.res_prob W := by
  funext j
  idx_vars j
  obtain rfl : j0 = 0 := Subsingleton.elim _ _
  refine (Cert.KernelIdeal.Values.out_prob m c j1).trans ?_
  rw [← s.rs]
  exact (Cert.ReferenceIdeal.Refs.out_prob W s.routed j1).symm

end Same

end Cert.Proof

end
-- ==== Proof.Algebraic.lean ====
/-
  The two programs agree: on arguments the precondition holds of, both end with the same results.
-/
module

public import proofs.«01_k».proof.Proof.Equal

@[expose] public section

set_option maxRecDepth 16384

noncomputable section

namespace Cert.Proof

open Idealize.ShloMosaic Idealize.ShloMosaic.TcCoe Idealize.SL.Sem Idealize.ShloMosaic.StableHlo
open Cert.Spec (IsReal)

/-- A value equal to a real one is real. -/
theorem cast_real {x y : EReal} (e : x = y) (h : IsReal y) : IsReal x := e ▸ h

/-- Arguments that agree and satisfy the precondition are the `Same`. -/
theorem same (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hp : Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = fun _ => 1#1)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Same m c (launchContents m' c) := by
  obtain ⟨⟨z4, z6, z8, z15, z17, z19⟩, r2, r3, r5⟩ := Cert.Pre_plain_inputs.plain hp
  obtain ⟨e0, e1, e2, e3, e4, e5, e6, e7, e8, e9, e10, e11, e12, e13, e14, e15, e16, e17, e18, e19⟩ := ha
  exact {
    x := funext fun t => funext fun d => congrFun e0 (ix3 0 t d)
    pos := funext fun t => congrFun e1 (ix2 0 t)
    l1 := funext fun d => congrFun e2 (ix1 d)
    qw := funext fun o => funext fun k => congrFun e3 (ix2 o k)
    kw := funext fun o => funext fun k => congrFun e5 (ix2 o k)
    vw := funext fun o => funext fun k => congrFun e7 (ix2 o k)
    ow := funext fun o => funext fun k => congrFun e9 (ix2 o k)
    l2 := funext fun d => congrFun e10 (ix1 d)
    gw := funext fun o => funext fun k => congrFun e11 (ix2 o k)
    uw := funext fun o => funext fun k => congrFun e12 (ix2 o k)
    dw := funext fun o => funext fun k => congrFun e13 (ix2 o k)
    w1 := funext fun o => funext fun k => congrFun e14 (ix2 o k)
    w2 := funext fun o => funext fun k => congrFun e16 (ix2 o k)
    cr := funext fun k => congrFun e18 (ix2 0 k)
    z4 := fun o => (congrFun e4 (ix1 o)).trans (z4 (ix1 o))
    z6 := fun o => (congrFun e6 (ix1 o)).trans (z6 (ix1 o))
    z8 := fun o => (congrFun e8 (ix1 o)).trans (z8 (ix1 o))
    z15 := fun o => (congrFun e15 (ix1 o)).trans (z15 (ix1 o))
    z17 := fun o => (congrFun e17 (ix1 o)).trans (z17 (ix1 o))
    z19 := (congrFun e19 (ix1 0)).trans (z19 (ix1 0))
    r2 := fun d => cast_real (congrFun e2 (ix1 d)) (r2 (ix1 d))
    r3 := fun o k => cast_real (congrFun e3 (ix2 o k)) (r3 (ix2 o k))
    r5 := fun o k => cast_real (congrFun e5 (ix2 o k)) (r5 (ix2 o k)) }

/-- The kernel and the reference end with equal results and their arguments unchanged. -/
theorem algebraic : Cert.algebraic_KernelIdeal_ReferenceIdeal_pre_plain_inputs (hKernelIdeal := Cert.KernelIdeal.Gen.facts) (hReferenceIdeal := Cert.ReferenceIdeal.Gen.facts)
    (hPre_plain_inputs := Cert.Pre_plain_inputs.facts) := fun m g m' g' hp ha =>
  ⟨fun c => Cert.ReferenceIdeal.Refs.res_post (launchContents m' c), fun c => Cert.ReferenceIdeal.Refs.res_loss (launchContents m' c), fun c => Cert.ReferenceIdeal.Refs.res_causal (launchContents m' c), fun c => Cert.ReferenceIdeal.Refs.res_gate (launchContents m' c), fun c => Cert.ReferenceIdeal.Refs.res_target (launchContents m' c), fun c => Cert.ReferenceIdeal.Refs.res_prob (launchContents m' c),
    (θ_run _ _ _).mono (fun r h c => ⟨(Cert.KernelIdeal.Run.read h.1 c Cert.KernelIdeal.main_v97 rfl).trans (same m m' c (hp c) (ha c)).post,
      (Cert.KernelIdeal.Run.read h.1 c Cert.KernelIdeal.main_v98 rfl).trans (same m m' c (hp c) (ha c)).loss,
      (Cert.KernelIdeal.Run.read h.1 c Cert.KernelIdeal.main_v99 rfl).trans (same m m' c (hp c) (ha c)).causal,
      (Cert.KernelIdeal.Run.read h.1 c Cert.KernelIdeal.main_v100 rfl).trans (same m m' c (hp c) (ha c)).gate,
      (Cert.KernelIdeal.Run.read h.1 c Cert.KernelIdeal.main_v101 rfl).trans (same m m' c (hp c) (ha c)).target,
      (Cert.KernelIdeal.Run.read h.1 c Cert.KernelIdeal.main_v102 rfl).trans (same m m' c (hp c) (ha c)).prob,
      Cert.KernelIdeal.Run.args m h.1 c⟩) (Cert.KernelIdeal.Run.run (F := Ideal) m g),
    Cert.ReferenceIdeal.Value.run (F := Ideal) m' g'⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Algebraic
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_plain_inputs.facts,
  frame_kernel, frame_kernelIdeal, fun m ρ _ => frame_kernelIdeal m ρ trivial, frame_referenceIdeal,
  fun m ρ _ => frame_referenceIdeal m ρ trivial, trivial, algebraic⟩

end Cert.Proof

end
